-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 4096]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S16384x1024 : Shape := ⟨2, ![16384, 1024]⟩
abbrev S_ : Shape := ⟨0, ![]⟩
abbrev S4 : Shape := ⟨1, ![4]⟩
abbrev S8 : Shape := ⟨1, ![8]⟩
abbrev S4096x1024 : Shape := ⟨2, ![4096, 1024]⟩
abbrev S1 : Shape := ⟨1, ![1]⟩
abbrev S4096x128 : Shape := ⟨2, ![4096, 128]⟩
abbrev S4096x256 : Shape := ⟨2, ![4096, 256]⟩

abbrev nBuf : Space → Nat
  | .hbm => 2
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x1024, .f32⟩
  | _, _ => ⟨S4096x4096, .f32⟩

abbrev bufScoped : (cs : CoreSpace) → Fin (nBuf (.core cs)) → Bool
  | _, _ => false

abbrev semScoped : Fin 2 → Bool
  | ⟨0, _⟩ => false
  | ⟨1, _⟩ => true
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v18 : BitVec 32 := Scalar.muli v2 c16_i32_10
  let v19 : BitVec 32 := Scalar.addi c0_i32 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 32 := Scalar.addi v5 c1_i32_7
  let c4_i32_8 : BitVec 32 := 4#32
  let v17 : BitVec 32 := Scalar.remsi v16 c4_i32_8
  let c4_i32_11 : BitVec 32 := 4#32
  let v20 : BitVec 32 := Scalar.muli v17 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_dev2 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v26 : BitVec 32 := Scalar.muli v2 c16_i32_16
  let v27 : BitVec 32 := Scalar.addi c0_i32_17 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v24 : BitVec 32 := Scalar.addi v5 c2_i32_13
  let c4_i32_14 : BitVec 32 := 4#32
  let v25 : BitVec 32 := Scalar.remsi v24 c4_i32_14
  let c4_i32_18 : BitVec 32 := 4#32
  let v28 : BitVec 32 := Scalar.muli v25 c4_i32_18
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v30 : BitVec 32 := Scalar.muli v8 c1_i32_19
  let v31 : BitVec 32 := Scalar.addi v29 v30
  v31.toNat
def k0_dev3 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v34 : BitVec 32 := Scalar.muli v2 c16_i32_22
  let v35 : BitVec 32 := Scalar.addi c0_i32_23 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v32 : BitVec 32 := Scalar.addi v5 c3_i32
  let c4_i32_20 : BitVec 32 := 4#32
  let v33 : BitVec 32 := Scalar.remsi v32 c4_i32_20
  let c4_i32_24 : BitVec 32 := 4#32
  let v36 : BitVec 32 := Scalar.muli v33 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v38 : BitVec 32 := Scalar.muli v8 c1_i32_25
  let v39 : BitVec 32 := Scalar.addi v37 v38
  v39.toNat
def k0_dev4 (d0 : Dev nD) : Nat :=
  let c0_i32_29 : BitVec 32 := 0#32
  let c1_i32_26 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v40 : BitVec 32 := Scalar.subi c1_i32_26 v2
  let c16_i32_28 : BitVec 32 := 16#32
  let v41 : BitVec 32 := Scalar.muli v40 c16_i32_28
  let v42 : BitVec 32 := Scalar.addi c0_i32_29 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_30 : BitVec 32 := 4#32
  let v43 : BitVec 32 := Scalar.muli v5 c4_i32_30
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v45 : BitVec 32 := Scalar.muli v8 c1_i32_31
  let v46 : BitVec 32 := Scalar.addi v44 v45
  v46.toNat
def k0_dev5 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v47 : BitVec 32 := Scalar.muli v2 c16_i32_33
  let v48 : BitVec 32 := Scalar.addi c0_i32_34 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v49 : BitVec 32 := Scalar.muli v5 c4_i32_35
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_36 : BitVec 32 := 1#32
  let v51 : BitVec 32 := Scalar.muli v14 c1_i32_36
  let v52 : BitVec 32 := Scalar.addi v50 v51
  v52.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32 : BitVec 32 := 4096#32
  let v54 : BitVec 32 := Scalar.muli v5 c4096_i32
  let c0_i32_37 : BitVec 32 := 0#32
  ![v54.toNat, 0]
def k0_off2 (d0 : Dev nD) : Fin 2 → Nat :=
  let c0_i32_38 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v53 : BitVec 32 := Scalar.muli v5 c1024_i32
  ![0, v53.toNat]
def k0_off3 (d0 : Dev nD) (c0_i32_45 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32_43 : BitVec 32 := 4096#32
  let v63 : BitVec 32 := Scalar.muli v5 c4096_i32_43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32_44 : BitVec 32 := 256#32
  let v64 : BitVec 32 := Scalar.muli v11 c256_i32_44
  let v65 : BitVec 32 := Scalar.addi v64 c0_i32_45
  ![v63.toNat, v65.toNat]
def k0_off4 (d0 : Dev nD) (c0_i32_42 : BitVec 32) : Fin 2 → Nat :=
  let c0_i32_52 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v57 : BitVec 32 := Scalar.addi v5 c1_i32_39
  let c4_i32_40 : BitVec 32 := 4#32
  let v58 : BitVec 32 := Scalar.remsi v57 c4_i32_40
  let c1024_i32_41 : BitVec 32 := 1024#32
  let v59 : BitVec 32 := Scalar.muli v58 c1024_i32_41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32 : BitVec 32 := 256#32
  let v60 : BitVec 32 := Scalar.muli v11 c256_i32
  let v61 : BitVec 32 := Scalar.addi v59 v60
  let v62 : BitVec 32 := Scalar.addi v61 c0_i32_42
  ![0, v62.toNat]
def k0_dev6 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v66 : BitVec 32 := Scalar.muli v2 c16_i32_48
  let v67 : BitVec 32 := Scalar.addi c0_i32_49 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_39 : BitVec 32 := 1#32
  let v57 : BitVec 32 := Scalar.addi v5 c1_i32_39
  let c4_i32_40 : BitVec 32 := 4#32
  let v58 : BitVec 32 := Scalar.remsi v57 c4_i32_40
  let c4_i32_50 : BitVec 32 := 4#32
  let v68 : BitVec 32 := Scalar.muli v58 c4_i32_50
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v70 : BitVec 32 := Scalar.muli v8 c1_i32_51
  let v71 : BitVec 32 := Scalar.addi v69 v70
  v71.toNat
def k0_dev7 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v87 : BitVec 32 := Scalar.muli v2 c16_i32_62
  let v88 : BitVec 32 := Scalar.addi c0_i32_63 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v78 : BitVec 32 := Scalar.addi v5 c1_i32_53
  let c4_i32_54 : BitVec 32 := 4#32
  let v79 : BitVec 32 := Scalar.remsi v78 c4_i32_54
  let c4_i32_64 : BitVec 32 := 4#32
  let v89 : BitVec 32 := Scalar.muli v79 c4_i32_64
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v91 : BitVec 32 := Scalar.muli v8 c1_i32_65
  let v92 : BitVec 32 := Scalar.addi v90 v91
  v92.toNat
def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32_72 : BitVec 32 := 4096#32
  let v105 : BitVec 32 := Scalar.muli v5 c4096_i32_72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32_73 : BitVec 32 := 256#32
  let v106 : BitVec 32 := Scalar.muli v11 c256_i32_73
  let c0_i32_74 : BitVec 32 := 0#32
  let v107 : BitVec 32 := Scalar.addi v106 c0_i32_74
  ![v105.toNat, v107.toNat]
def k0_off6 (d0 : Dev nD) (c2_i32_67 : BitVec 32) : Fin 2 → Nat :=
  let c0_i32_81 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v99 : BitVec 32 := Scalar.addi v5 c2_i32_67
  let c4_i32_68 : BitVec 32 := 4#32
  let v100 : BitVec 32 := Scalar.remsi v99 c4_i32_68
  let c1024_i32_69 : BitVec 32 := 1024#32
  let v101 : BitVec 32 := Scalar.muli v100 c1024_i32_69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32_70 : BitVec 32 := 256#32
  let v102 : BitVec 32 := Scalar.muli v11 c256_i32_70
  let v103 : BitVec 32 := Scalar.addi v101 v102
  let c0_i32_71 : BitVec 32 := 0#32
  let v104 : BitVec 32 := Scalar.addi v103 c0_i32_71
  ![0, v104.toNat]
def k0_dev8 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v108 : BitVec 32 := Scalar.muli v2 c16_i32_77
  let v109 : BitVec 32 := Scalar.addi c0_i32_78 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v99 : BitVec 32 := Scalar.addi v5 c2_i32_67
  let c4_i32_68 : BitVec 32 := 4#32
  let v100 : BitVec 32 := Scalar.remsi v99 c4_i32_68
  let c4_i32_79 : BitVec 32 := 4#32
  let v110 : BitVec 32 := Scalar.muli v100 c4_i32_79
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v112 : BitVec 32 := Scalar.muli v8 c1_i32_80
  let v113 : BitVec 32 := Scalar.addi v111 v112
  v113.toNat
def k0_dev9 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v129 : BitVec 32 := Scalar.muli v2 c16_i32_92
  let v130 : BitVec 32 := Scalar.addi c0_i32_93 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_82 : BitVec 32 := 3#32
  let v120 : BitVec 32 := Scalar.addi v5 c3_i32_82
  let c4_i32_83 : BitVec 32 := 4#32
  let v121 : BitVec 32 := Scalar.remsi v120 c4_i32_83
  let c4_i32_94 : BitVec 32 := 4#32
  let v131 : BitVec 32 := Scalar.muli v121 c4_i32_94
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v133 : BitVec 32 := Scalar.muli v8 c1_i32_95
  let v134 : BitVec 32 := Scalar.addi v132 v133
  v134.toNat
def k0_off7 (d0 : Dev nD) (c0_i32_112 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_105 : BitVec 32 := 1#32
  let v152 : BitVec 32 := Scalar.subi v5 c1_i32_105
  let c4_i32_106 : BitVec 32 := 4#32
  let v153 : BitVec 32 := Scalar.addi v152 c4_i32_106
  let c4_i32_107 : BitVec 32 := 4#32
  let v154 : BitVec 32 := Scalar.remsi v153 c4_i32_107
  let c4096_i32_108 : BitVec 32 := 4096#32
  let v155 : BitVec 32 := Scalar.muli v154 c4096_i32_108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32_111 : BitVec 32 := 256#32
  let v158 : BitVec 32 := Scalar.muli v11 c256_i32_111
  let v159 : BitVec 32 := Scalar.addi v158 c0_i32_112
  ![v155.toNat, v159.toNat]
def k0_dev10 (d0 : Dev nD) : Nat :=
  let c0_i32_116 : BitVec 32 := 0#32
  let c1_i32_104 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v151 : BitVec 32 := Scalar.subi c1_i32_104 v2
  let c16_i32_115 : BitVec 32 := 16#32
  let v160 : BitVec 32 := Scalar.muli v151 c16_i32_115
  let v161 : BitVec 32 := Scalar.addi c0_i32_116 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v162 : BitVec 32 := Scalar.muli v5 c4_i32_117
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v164 : BitVec 32 := Scalar.muli v8 c1_i32_118
  let v165 : BitVec 32 := Scalar.addi v163 v164
  v165.toNat
def k0_dev11 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_129 : BitVec 32 := 16#32
  let v180 : BitVec 32 := Scalar.muli v2 c16_i32_129
  let v181 : BitVec 32 := Scalar.addi c0_i32_130 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v182 : BitVec 32 := Scalar.muli v5 c4_i32_131
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_132 : BitVec 32 := 1#32
  let v184 : BitVec 32 := Scalar.muli v14 c1_i32_132
  let v185 : BitVec 32 := Scalar.addi v183 v184
  v185.toNat
def k0_dev12 (d0 : Dev nD) : Nat :=
  let c0_i32_152 : BitVec 32 := 0#32
  let c1_i32_140 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v202 : BitVec 32 := Scalar.subi c1_i32_140 v2
  let c16_i32_151 : BitVec 32 := 16#32
  let v211 : BitVec 32 := Scalar.muli v202 c16_i32_151
  let v212 : BitVec 32 := Scalar.addi c0_i32_152 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153 : BitVec 32 := 4#32
  let v213 : BitVec 32 := Scalar.muli v5 c4_i32_153
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v215 : BitVec 32 := Scalar.muli v8 c1_i32_154
  let v216 : BitVec 32 := Scalar.addi v214 v215
  v216.toNat
def k0_dev13 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v231 : BitVec 32 := Scalar.muli v2 c16_i32_165
  let v232 : BitVec 32 := Scalar.addi c0_i32_166 v231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v233 : BitVec 32 := Scalar.muli v5 c4_i32_167
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_168 : BitVec 32 := 1#32
  let v235 : BitVec 32 := Scalar.muli v14 c1_i32_168
  let v236 : BitVec 32 := Scalar.addi v234 v235
  v236.toNat
def k0_off8 (d0 : Dev nD) (c2_i32_177 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v254 : BitVec 32 := Scalar.subi v5 c2_i32_177
  let c4_i32_178 : BitVec 32 := 4#32
  let v255 : BitVec 32 := Scalar.addi v254 c4_i32_178
  let c4_i32_179 : BitVec 32 := 4#32
  let v256 : BitVec 32 := Scalar.remsi v255 c4_i32_179
  let c4096_i32_180 : BitVec 32 := 4096#32
  let v257 : BitVec 32 := Scalar.muli v256 c4096_i32_180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c256_i32_183 : BitVec 32 := 256#32
  let v260 : BitVec 32 := Scalar.muli v11 c256_i32_183
  let c0_i32_184 : BitVec 32 := 0#32
  let v261 : BitVec 32 := Scalar.addi v260 c0_i32_184
  ![v257.toNat, v261.toNat]
def k0_dev14 (d0 : Dev nD) : Nat :=
  let c0_i32_188 : BitVec 32 := 0#32
  let c1_i32_176 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v253 : BitVec 32 := Scalar.subi c1_i32_176 v2
  let c16_i32_187 : BitVec 32 := 16#32
  let v262 : BitVec 32 := Scalar.muli v253 c16_i32_187
  let v263 : BitVec 32 := Scalar.addi c0_i32_188 v262
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_189 : BitVec 32 := 4#32
  let v264 : BitVec 32 := Scalar.muli v5 c4_i32_189
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v266 : BitVec 32 := Scalar.muli v8 c1_i32_190
  let v267 : BitVec 32 := Scalar.addi v265 v266
  v267.toNat
def k0_dev15 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v282 : BitVec 32 := Scalar.muli v2 c16_i32_201
  let v283 : BitVec 32 := Scalar.addi c0_i32_202 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v284 : BitVec 32 := Scalar.muli v5 c4_i32_203
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_204 : BitVec 32 := 1#32
  let v286 : BitVec 32 := Scalar.muli v14 c1_i32_204
  let v287 : BitVec 32 := Scalar.addi v285 v286
  v287.toNat
def k0_dev16 (d0 : Dev nD) : Nat :=
  let c0_i32_224 : BitVec 32 := 0#32
  let c1_i32_212 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v304 : BitVec 32 := Scalar.subi c1_i32_212 v2
  let c16_i32_223 : BitVec 32 := 16#32
  let v313 : BitVec 32 := Scalar.muli v304 c16_i32_223
  let v314 : BitVec 32 := Scalar.addi c0_i32_224 v313
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_225 : BitVec 32 := 4#32
  let v315 : BitVec 32 := Scalar.muli v5 c4_i32_225
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v317 : BitVec 32 := Scalar.muli v8 c1_i32_226
  let v318 : BitVec 32 := Scalar.addi v316 v317
  v318.toNat
def k0_dev17 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v333 : BitVec 32 := Scalar.muli v2 c16_i32_237
  let v334 : BitVec 32 := Scalar.addi c0_i32_238 v333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v335 : BitVec 32 := Scalar.muli v5 c4_i32_239
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_240 : BitVec 32 := 1#32
  let v337 : BitVec 32 := Scalar.muli v14 c1_i32_240
  let v338 : BitVec 32 := Scalar.addi v336 v337
  v338.toNat
def k0_off9 (d0 : Dev nD) (c0_i32_254 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v355 : BitVec 32 := Scalar.subi v5 c1_i32_247
  let c4_i32_248 : BitVec 32 := 4#32
  let v356 : BitVec 32 := Scalar.addi v355 c4_i32_248
  let c4_i32_249 : BitVec 32 := 4#32
  let v357 : BitVec 32 := Scalar.remsi v356 c4_i32_249
  let c4096_i32_250 : BitVec 32 := 4096#32
  let v358 : BitVec 32 := Scalar.muli v357 c4096_i32_250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c2_i32_4 : BitVec 32 := 2#32
  let v12 : BitVec 32 := Scalar.addi v11 c2_i32_4
  let c4_i32_5 : BitVec 32 := 4#32
  let v13 : BitVec 32 := Scalar.remsi v12 c4_i32_5
  let c256_i32_253 : BitVec 32 := 256#32
  let v361 : BitVec 32 := Scalar.muli v13 c256_i32_253
  let v362 : BitVec 32 := Scalar.addi v361 c0_i32_254
  ![v358.toNat, v362.toNat]
def k0_dev18 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v363 : BitVec 32 := Scalar.muli v2 c16_i32_257
  let v364 : BitVec 32 := Scalar.addi c0_i32_258 v363
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_259 : BitVec 32 := 4#32
  let v365 : BitVec 32 := Scalar.muli v5 c4_i32_259
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_260 : BitVec 32 := 1#32
  let v367 : BitVec 32 := Scalar.muli v14 c1_i32_260
  let v368 : BitVec 32 := Scalar.addi v366 v367
  v368.toNat
def k0_dev19 (d0 : Dev nD) : Nat :=
  let c0_i32_278 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_277 : BitVec 32 := 16#32
  let v393 : BitVec 32 := Scalar.muli v2 c16_i32_277
  let v394 : BitVec 32 := Scalar.addi c0_i32_278 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_279 : BitVec 32 := 4#32
  let v395 : BitVec 32 := Scalar.muli v5 c4_i32_279
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_280 : BitVec 32 := 1#32
  let v397 : BitVec 32 := Scalar.muli v14 c1_i32_280
  let v398 : BitVec 32 := Scalar.addi v396 v397
  v398.toNat
def k0_off10 (d0 : Dev nD) (c2_i32_287 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v415 : BitVec 32 := Scalar.subi v5 c2_i32_287
  let c4_i32_288 : BitVec 32 := 4#32
  let v416 : BitVec 32 := Scalar.addi v415 c4_i32_288
  let c4_i32_289 : BitVec 32 := 4#32
  let v417 : BitVec 32 := Scalar.remsi v416 c4_i32_289
  let c4096_i32_290 : BitVec 32 := 4096#32
  let v418 : BitVec 32 := Scalar.muli v417 c4096_i32_290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c2_i32_2 v2
  let v10 : BitVec 32 := Scalar.addi v8 v9
  let c4_i32_3 : BitVec 32 := 4#32
  let v11 : BitVec 32 := Scalar.remsi v10 c4_i32_3
  let c2_i32_4 : BitVec 32 := 2#32
  let v12 : BitVec 32 := Scalar.addi v11 c2_i32_4
  let c4_i32_5 : BitVec 32 := 4#32
  let v13 : BitVec 32 := Scalar.remsi v12 c4_i32_5
  let c256_i32_293 : BitVec 32 := 256#32
  let v421 : BitVec 32 := Scalar.muli v13 c256_i32_293
  let c0_i32_294 : BitVec 32 := 0#32
  let v422 : BitVec 32 := Scalar.addi v421 c0_i32_294
  ![v418.toNat, v422.toNat]
def k0_dev20 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v423 : BitVec 32 := Scalar.muli v2 c16_i32_296
  let v424 : BitVec 32 := Scalar.addi c0_i32_297 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_298 : BitVec 32 := 4#32
  let v425 : BitVec 32 := Scalar.muli v5 c4_i32_298
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_299 : BitVec 32 := 1#32
  let v427 : BitVec 32 := Scalar.muli v14 c1_i32_299
  let v428 : BitVec 32 := Scalar.addi v426 v427
  v428.toNat
def k0_dev21 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v453 : BitVec 32 := Scalar.muli v2 c16_i32_315
  let v454 : BitVec 32 := Scalar.addi c0_i32_316 v453
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v455 : BitVec 32 := Scalar.muli v5 c4_i32_317
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_318 : BitVec 32 := 1#32
  let v457 : BitVec 32 := Scalar.muli v14 c1_i32_318
  let v458 : BitVec 32 := Scalar.addi v456 v457
  v458.toNat
def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_319 : BitVec 32 := 1#32
  let v465 : BitVec 32 := Scalar.subi v5 c1_i32_319
  let c4_i32_320 : BitVec 32 := 4#32
  let v466 : BitVec 32 := Scalar.addi v465 c4_i32_320
  let c4_i32_321 : BitVec 32 := 4#32
  let v467 : BitVec 32 := Scalar.remsi v466 c4_i32_321
  let c4096_i32_322 : BitVec 32 := 4096#32
  let v468 : BitVec 32 := Scalar.muli v467 c4096_i32_322
  let c0_i32_329 : BitVec 32 := 0#32
  ![v468.toNat, 0]
def k0_off12 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_331 : BitVec 32 := 1#32
  let v479 : BitVec 32 := Scalar.subi v5 c1_i32_331
  let c4_i32_332 : BitVec 32 := 4#32
  let v480 : BitVec 32 := Scalar.addi v479 c4_i32_332
  let c4_i32_333 : BitVec 32 := 4#32
  let v481 : BitVec 32 := Scalar.remsi v480 c4_i32_333
  let c4096_i32_334 : BitVec 32 := 4096#32
  let v482 : BitVec 32 := Scalar.muli v481 c4096_i32_334
  let c128_i32_341 : BitVec 32 := 128#32
  ![v482.toNat, 128]
def k0_off13 (d0 : Dev nD) (c2_i32_343 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v493 : BitVec 32 := Scalar.subi v5 c2_i32_343
  let c4_i32_344 : BitVec 32 := 4#32
  let v494 : BitVec 32 := Scalar.addi v493 c4_i32_344
  let c4_i32_345 : BitVec 32 := 4#32
  let v495 : BitVec 32 := Scalar.remsi v494 c4_i32_345
  let c4096_i32_346 : BitVec 32 := 4096#32
  let v496 : BitVec 32 := Scalar.muli v495 c4096_i32_346
  let c0_i32_353 : BitVec 32 := 0#32
  ![v496.toNat, 0]
def k0_dev22 (d0 : Dev nD) : Nat :=
  let c0_i32_473_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_472_r0 : BitVec 32 := 16#32
  let v646_r0 : BitVec 32 := Scalar.muli v2 c16_i32_472_r0
  let v647_r0 : BitVec 32 := Scalar.addi c0_i32_473_r0 v646_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_469_r0 : BitVec 32 := 1#32
  let v644_r0 : BitVec 32 := Scalar.addi v5 c1_i32_469_r0
  let c4_i32_470_r0 : BitVec 32 := 4#32
  let v645_r0 : BitVec 32 := Scalar.remsi v644_r0 c4_i32_470_r0
  let c4_i32_474_r0 : BitVec 32 := 4#32
  let v648_r0 : BitVec 32 := Scalar.muli v645_r0 c4_i32_474_r0
  let v649_r0 : BitVec 32 := Scalar.addi v647_r0 v648_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475_r0 : BitVec 32 := 1#32
  let v650_r0 : BitVec 32 := Scalar.muli v8 c1_i32_475_r0
  let v651_r0 : BitVec 32 := Scalar.addi v649_r0 v650_r0
  v651_r0.toNat
def k0_dev23 (d0 : Dev nD) : Nat :=
  let c0_i32_480_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_479_r0 : BitVec 32 := 16#32
  let v654_r0 : BitVec 32 := Scalar.muli v2 c16_i32_479_r0
  let v655_r0 : BitVec 32 := Scalar.addi c0_i32_480_r0 v654_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_476_r0 : BitVec 32 := 2#32
  let v652_r0 : BitVec 32 := Scalar.addi v5 c2_i32_476_r0
  let c4_i32_477_r0 : BitVec 32 := 4#32
  let v653_r0 : BitVec 32 := Scalar.remsi v652_r0 c4_i32_477_r0
  let c4_i32_481_r0 : BitVec 32 := 4#32
  let v656_r0 : BitVec 32 := Scalar.muli v653_r0 c4_i32_481_r0
  let v657_r0 : BitVec 32 := Scalar.addi v655_r0 v656_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482_r0 : BitVec 32 := 1#32
  let v658_r0 : BitVec 32 := Scalar.muli v8 c1_i32_482_r0
  let v659_r0 : BitVec 32 := Scalar.addi v657_r0 v658_r0
  v659_r0.toNat
def k0_dev24 (d0 : Dev nD) : Nat :=
  let c0_i32_487_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_486_r0 : BitVec 32 := 16#32
  let v662_r0 : BitVec 32 := Scalar.muli v2 c16_i32_486_r0
  let v663_r0 : BitVec 32 := Scalar.addi c0_i32_487_r0 v662_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_483_r0 : BitVec 32 := 3#32
  let v660_r0 : BitVec 32 := Scalar.addi v5 c3_i32_483_r0
  let c4_i32_484_r0 : BitVec 32 := 4#32
  let v661_r0 : BitVec 32 := Scalar.remsi v660_r0 c4_i32_484_r0
  let c4_i32_488_r0 : BitVec 32 := 4#32
  let v664_r0 : BitVec 32 := Scalar.muli v661_r0 c4_i32_488_r0
  let v665_r0 : BitVec 32 := Scalar.addi v663_r0 v664_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_489_r0 : BitVec 32 := 1#32
  let v666_r0 : BitVec 32 := Scalar.muli v8 c1_i32_489_r0
  let v667_r0 : BitVec 32 := Scalar.addi v665_r0 v666_r0
  v667_r0.toNat
def k0_dev25 (d0 : Dev nD) : Nat :=
  let c0_i32_493_r0 : BitVec 32 := 0#32
  let c1_i32_490_r0 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v668_r0 : BitVec 32 := Scalar.subi c1_i32_490_r0 v2
  let c16_i32_492_r0 : BitVec 32 := 16#32
  let v669_r0 : BitVec 32 := Scalar.muli v668_r0 c16_i32_492_r0
  let v670_r0 : BitVec 32 := Scalar.addi c0_i32_493_r0 v669_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_494_r0 : BitVec 32 := 4#32
  let v671_r0 : BitVec 32 := Scalar.muli v5 c4_i32_494_r0
  let v672_r0 : BitVec 32 := Scalar.addi v670_r0 v671_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495_r0 : BitVec 32 := 1#32
  let v673_r0 : BitVec 32 := Scalar.muli v8 c1_i32_495_r0
  let v674_r0 : BitVec 32 := Scalar.addi v672_r0 v673_r0
  v674_r0.toNat
def k0_dev26 (d0 : Dev nD) : Nat :=
  let c0_i32_498_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_497_r0 : BitVec 32 := 16#32
  let v675_r0 : BitVec 32 := Scalar.muli v2 c16_i32_497_r0
  let v676_r0 : BitVec 32 := Scalar.addi c0_i32_498_r0 v675_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_499_r0 : BitVec 32 := 4#32
  let v677_r0 : BitVec 32 := Scalar.muli v5 c4_i32_499_r0
  let v678_r0 : BitVec 32 := Scalar.addi v676_r0 v677_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.xori v8 c1_i32_6
  let c1_i32_500_r0 : BitVec 32 := 1#32
  let v679_r0 : BitVec 32 := Scalar.muli v14 c1_i32_500_r0
  let v680_r0 : BitVec 32 := Scalar.addi v678_r0 v679_r0
  v680_r0.toNat
-- ==== ReferenceIdeal.lean ====
abbrev S16384x4096 : Shape := ⟨2, ![16384, 4096]⟩

abbrev nBuf : Space → Nat
  | .hbm => 1
  | .vmem => 0
  | .smem => 0
  | _ => 0

abbrev bufTy : (tb : Table) → Fin (tcTables nBuf tb) → BufTy
  | .hbm, ⟨0, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The mesh of 32 devices, the partners a device talks to, and the division of its result into windows.

Device c sits at (x, y, z) = (c / 16, c / 4 mod 4, c mod 4). It talks to five partners: the three other devices
of its y row (0, 1, 2), its mirror in x (3) and the neighbour that differs in the low bit of z (4).

The result has four row blocks of 4096 rows, and each row block has four column quarters of 256 columns. Row block
y is copied locally. Each other row block is filled quarter by quarter, in four STAGES:

  stage 0   from the row: a device sends the quarter it is in charge of (`quarter c`)
  stage 1   from the mirror: what the mirror got in its stage 0
  stage 2   from the neighbour: what the neighbour got in its stage 0
  stage 3   from the neighbour: what the neighbour got in its stage 1

Each stage has four SLOTS: slots 0 and 1 are the two column halves of the quarter that came over one step of
the row, slots 2 and 3 the whole quarters that came over two and three steps.
-/
module

public import proofs.«01_k».proof.Proof.Gen.KernelIdeal

@[expose] public section

namespace Cert.KernelIdeal.Relay

open Idealize.ShloMosaic Cert.KernelIdeal Cert.KernelIdeal.Gen

/-- The coordinate of a device along its row. -/
def row (c : Dev nD) : ℕ := c.val / 4 % 4

/-- The column quarter a device is in charge of. -/
def quarter (c : Dev nD) : ℕ := (c.val % 4 + 2 * (c.val / 16)) % 4

/-- The five partners of a device. -/
def partner (j : Fin 5) (c : Dev nD) : Dev nD :=
  ⟨(if j.val < 3 then 16 * (c.val / 16) + 4 * ((row c + j.val + 1) % 4) + c.val % 4
    else if j.val = 3 then c.val + 16 else 4 * (c.val / 4) + (c.val % 4 + 1 - 2 * (c.val % 2))) % 32, Nat.mod_lt _ (by decide)⟩

/-- The partner whose partner under `j` this device is. -/
def back : Fin 5 → Fin 5 := ![2, 1, 0, 3, 4]

theorem partner_back : ∀ j c, partner (back j) (partner j c) = c := by decide +kernel
theorem back_back : ∀ j, back (back j) = j := by decide

/-- A partner index as a permutation of the mesh. -/
def turn (j : Fin 5) : Dev nD ≃ Dev nD where
  toFun := partner j
  invFun := partner (back j)
  left_inv := partner_back j
  right_inv c := by simpa only [back_back] using partner_back (back j) c

/-- The reversal of the partner indices. -/
def backs : Fin 5 ≃ Fin 5 := ⟨back, back, back_back, back_back⟩

/-! ## Slots and stages -/

/-- Steps along the row, the column offset inside the quarter and the width of each slot. -/
def steps : Fin 4 → ℕ := ![1, 1, 2, 3]
def shift : Fin 4 → ℕ := ![0, 128, 0, 0]
def width : Fin 4 → ℕ := ![128, 128, 256, 256]

/-- The partner that receives what is sent at a stage from a slot. -/
def via (k s : Fin 4) : Fin 5 := ![![0, 0, 1, 2] s, 3, 4, 4] k

/-- The row block and the column quarter of a window of device `c`. -/
def rowOf (c : Dev nD) (s : Fin 4) : ℕ := (row c + 4 - steps s) % 4
def colOf (c : Dev nD) (k : Fin 4) : ℕ :=
  ![quarter c, quarter (partner 3 c), quarter (partner 4 c), quarter (partner 3 (partner 4 c))] k

/-- Which window of device `c` holds the element in row block `p`, quarter `q`, half `h` of the quarter. -/
def label (c : Dev nD) (p q h : ℕ) : Option (Fin 4 × Fin 4) :=
  if p = row c then none else
    some (if q = colOf c 0 then 0 else if q = colOf c 1 then 1 else if q = colOf c 2 then 2 else 3,
      if p = rowOf c 0 then (if h = 0 then 0 else 1) else if p = rowOf c 2 then 2 else 3)

/-- The halves a slot covers. -/
def covers (s : Fin 4) (h : ℕ) : Prop := h * 128 < shift s + width s ∧ shift s ≤ h * 128

instance (s : Fin 4) (h : ℕ) : Decidable (covers s h) := inferInstanceAs (Decidable (_ ∧ _))

theorem label_some : ∀ (c : Dev nD) (p q : Fin 4) (h : Fin 2) (k s : Fin 4),
    label c p q h = some (k, s) ↔ (p : ℕ) = rowOf c s ∧ (q : ℕ) = colOf c k ∧ covers s h := by decide +kernel

theorem label_none : ∀ (c : Dev nD) (p q : Fin 4) (h : Fin 2), label c p q h = none ↔ (p : ℕ) = row c := by decide +kernel

/-- Which window of the operand the element of column block `p`, quarter `q`, half `h` is sent from:
    `some none` the local copy, `some (some s)` slot `s`, `none` no copy at all. -/
def sourceLabel (c : Dev nD) (p q h : ℕ) : Option (Option (Fin 4)) :=
  if p = row c then some none else if q = quarter c then
    some (some (if p = (row c + 1) % 4 then (if h = 0 then 0 else 1) else if p = (row c + 2) % 4 then 2 else 3))
  else none

theorem sourceLabel_slot : ∀ (c : Dev nD) (p q : Fin 4) (h : Fin 2) (s : Fin 4),
    sourceLabel c p q h = some (some s) ↔ (p : ℕ) = (row c + steps s) % 4 ∧ (q : ℕ) = quarter c ∧ covers s h := by decide +kernel

theorem sourceLabel_local : ∀ (c : Dev nD) (p q : Fin 4) (h : Fin 2),
    sourceLabel c p q h = some none ↔ (p : ℕ) = row c := by decide +kernel

/-! ## Where each part of a result comes from -/

/-- The device whose operand fills row block `p`, quarter `q` of device `c`'s result. -/
def origin (c : Dev nD) (p q : ℕ) : Dev nD :=
  if p = row c then c else
    let d := if q = colOf c 0 then c else if q = colOf c 1 then partner 3 c else if q = colOf c 2 then partner 4 c
      else partner 3 (partner 4 c)
    ⟨(16 * (d.val / 16) + 4 * p + d.val % 4) % 32, Nat.mod_lt _ (by decide)⟩

theorem row_origin : ∀ (c : Dev nD) (p q : Fin 4), row (origin c p q) = p := by decide +kernel
theorem origin_self (c : Dev nD) (q : ℕ) : origin c (row c) q = c := if_pos rfl

/-- The mirror and the neighbour fill a row block from the same devices. -/
theorem origin_partner : ∀ (j : Fin 5) (c : Dev nD) (p q : Fin 4), 3 ≤ j → (p : ℕ) ≠ row c →
    origin (partner j c) p q = origin c p q := by decide +kernel

/-- A quarter that comes over the row comes from its sender. -/
theorem origin_row : ∀ (c : Dev nD) (s : Fin 4), origin (partner (via 0 s) c) (row c) (quarter c) = c := by decide +kernel

theorem row_lt : ∀ c, row c < 4 := by decide +kernel
theorem quarter_lt : ∀ c, quarter c < 4 := by decide +kernel
theorem rowOf_lt : ∀ c s, rowOf c s < 4 := by decide +kernel
theorem colOf_lt : ∀ c k, colOf c k < 4 := by decide +kernel
theorem rowOf_ne : ∀ c s, rowOf c s ≠ row c := by decide +kernel
theorem row_partner : ∀ j c, 3 ≤ j → row (partner j c) = row c := by decide +kernel
theorem row_via : ∀ s c, row (partner (via 0 s) c) = (row c + steps s) % 4 := by decide +kernel
theorem rowOf_via : ∀ s c, rowOf (partner (via 0 s) c) s = row c := by decide +kernel
theorem colOf_zero (c : Dev nD) : colOf c 0 = quarter c := rfl
theorem colOf_via : ∀ s c, colOf (partner (via 0 s) c) 0 = quarter c := by decide +kernel

/-- What the mirror or the neighbour gets at stage 1, 2, 3 is the window got at stage 0, 0, 1. -/
def feeds : Fin 4 → Fin 4 := ![0, 0, 0, 1]

theorem rowOf_partner : ∀ j c s, 3 ≤ j → rowOf (partner j c) s = rowOf c s := by decide +kernel
theorem colOf_feeds : ∀ k s c, k ≠ 0 → colOf (partner (via k s) c) k = colOf c (feeds k) := by decide +kernel
theorem via_ge : ∀ k s, k ≠ 0 → 3 ≤ via k s := by decide

/-! ## The devices the program names -/

theorem dev_row : ∀ c : Dev nD,
    ((⟨k0_dev1 c, k0_dev1_lt c⟩ : Dev nD) = partner 0 c ∧ (⟨k0_dev2 c, k0_dev2_lt c⟩ : Dev nD) = partner 1 c
      ∧ (⟨k0_dev3 c, k0_dev3_lt c⟩ : Dev nD) = partner 2 c)
    ∧ ((⟨k0_dev6 c, k0_dev6_lt c⟩ : Dev nD) = partner 0 c ∧ (⟨k0_dev7 c, k0_dev7_lt c⟩ : Dev nD) = partner 0 c
      ∧ (⟨k0_dev8 c, k0_dev8_lt c⟩ : Dev nD) = partner 1 c ∧ (⟨k0_dev9 c, k0_dev9_lt c⟩ : Dev nD) = partner 2 c)
    ∧ ((⟨k0_dev22 c, k0_dev22_lt c⟩ : Dev nD) = partner 0 c ∧ (⟨k0_dev23 c, k0_dev23_lt c⟩ : Dev nD) = partner 1 c
      ∧ (⟨k0_dev24 c, k0_dev24_lt c⟩ : Dev nD) = partner 2 c) := by decide +kernel

theorem dev_mirror : ∀ c : Dev nD,
    (⟨k0_dev4 c, k0_dev4_lt c⟩ : Dev nD) = partner 3 c ∧ (⟨k0_dev10 c, k0_dev10_lt c⟩ : Dev nD) = partner 3 c
      ∧ (⟨k0_dev12 c, k0_dev12_lt c⟩ : Dev nD) = partner 3 c ∧ (⟨k0_dev14 c, k0_dev14_lt c⟩ : Dev nD) = partner 3 c
      ∧ (⟨k0_dev16 c, k0_dev16_lt c⟩ : Dev nD) = partner 3 c ∧ (⟨k0_dev25 c, k0_dev25_lt c⟩ : Dev nD) = partner 3 c := by
  decide +kernel

theorem dev_neighbour : ∀ c : Dev nD,
    ((⟨k0_dev5 c, k0_dev5_lt c⟩ : Dev nD) = partner 4 c ∧ (⟨k0_dev11 c, k0_dev11_lt c⟩ : Dev nD) = partner 4 c
      ∧ (⟨k0_dev13 c, k0_dev13_lt c⟩ : Dev nD) = partner 4 c ∧ (⟨k0_dev15 c, k0_dev15_lt c⟩ : Dev nD) = partner 4 c
      ∧ (⟨k0_dev17 c, k0_dev17_lt c⟩ : Dev nD) = partner 4 c)
    ∧ ((⟨k0_dev18 c, k0_dev18_lt c⟩ : Dev nD) = partner 4 c ∧ (⟨k0_dev19 c, k0_dev19_lt c⟩ : Dev nD) = partner 4 c
      ∧ (⟨k0_dev20 c, k0_dev20_lt c⟩ : Dev nD) = partner 4 c ∧ (⟨k0_dev21 c, k0_dev21_lt c⟩ : Dev nD) = partner 4 c
      ∧ (⟨k0_dev26 c, k0_dev26_lt c⟩ : Dev nD) = partner 4 c) := by decide +kernel

end Cert.KernelIdeal.Relay

end
-- ==== Proof.Windows.lean ====
/-
The windows of the result and of the operand as element sets, what the result finally holds, and what a copy
between two windows leaves: always the final contents.
-/
module

public import proofs.«01_k».proof.Proof.Mesh
public import Idealize.ShloMosaic.Lib.Tactic

@[expose] public section

noncomputable section

namespace Cert.KernelIdeal.Relay

open Idealize.ShloMosaic Idealize.ShloMosaic.TcCoe Cert.KernelIdeal Cert.KernelIdeal.Gen

variable {F : FTy → Type} [FloatOps F]

/-! ## The two buffers and their blocks of 4096 rows -/

abbrev xM : Memref sig .tc .hbm S4096x4096 .f32 := Memref.whole main_arg0
abbrev oM : Memref sig .tc .hbm S16384x1024 .f32 := Memref.whole main_v1

/-- Blocks of the operand and of the result, 4096 rows high and `w` columns wide. -/
abbrev xBlk (off : Fin 2 → ℕ) (w : ℕ) (inb : ∀ a, off a + (⟨2, ![4096, w]⟩ : Shape).size a ≤ S4096x4096.size a) :
    Memref sig .tc .hbm ⟨2, ![4096, w]⟩ .f32 :=
  xM.slice (Rect.unit (s := S4096x4096) off (⟨2, ![4096, w]⟩ : Shape).size inb) (fun _ => rfl)
abbrev oBlk (off : Fin 2 → ℕ) (w : ℕ) (inb : ∀ a, off a + (⟨2, ![4096, w]⟩ : Shape).size a ≤ S16384x1024.size a) :
    Memref sig .tc .hbm ⟨2, ![4096, w]⟩ .f32 :=
  oM.slice (Rect.unit (s := S16384x1024) off (⟨2, ![4096, w]⟩ : Shape).size inb) (fun _ => rfl)

/-! ## The windows -/

/-- The label of an element of the result, of an element of the operand. -/
def outLabel (c : Dev nD) (i : S16384x1024.Idx) : Option (Fin 4 × Fin 4) :=
  label c ((i 0).val / 4096) ((i 1).val / 256) ((i 1).val % 256 / 128)
def inLabel (c : Dev nD) (i : S4096x4096.Idx) : Option (Option (Fin 4)) :=
  sourceLabel c ((i 1).val / 1024) ((i 1).val % 1024 / 256) ((i 1).val % 256 / 128)

/-- The elements of the result, of the operand, with one label. -/
def outWin (c : Dev nD) (t : Option (Fin 4 × Fin 4)) : Finset S16384x1024.Idx := Finset.univ.filter fun i => outLabel c i = t
def inWin (c : Dev nD) (t : Option (Option (Fin 4))) : Finset S4096x4096.Idx := Finset.univ.filter fun i => inLabel c i = t

/-- Offsets of the result's windows, and of the operand's. -/
def outOff (c : Dev nD) (k s : Fin 4) : Fin 2 → ℕ := ![4096 * rowOf c s, 256 * colOf c k + shift s]
def inOff (c : Dev nD) (s : Fin 4) : Fin 2 → ℕ := ![0, 1024 * ((row c + steps s) % 4) + 256 * quarter c + shift s]

theorem fin4_lt {n : ℕ} (h : n < 4) : ∃ p : Fin 4, (p : ℕ) = n := ⟨⟨n, h⟩, rfl⟩
theorem fin2_lt {n : ℕ} (h : n < 2) : ∃ p : Fin 2, (p : ℕ) = n := ⟨⟨n, h⟩, rfl⟩

theorem mem_outWin (c : Dev nD) (k s : Fin 4) (i : S16384x1024.Idx) : i ∈ outWin c (some (k, s)) ↔
    (i 0).val / 4096 = rowOf c s ∧ (i 1).val / 256 = colOf c k ∧ covers s ((i 1).val % 256 / 128) := by
  have h0 : (i 0).val < 16384 := (i 0).isLt
  have h1 : (i 1).val < 1024 := (i 1).isLt
  obtain ⟨p, hp⟩ := fin4_lt (n := (i 0).val / 4096) (by omega)
  obtain ⟨q, hq⟩ := fin4_lt (n := (i 1).val / 256) (by omega)
  obtain ⟨h, hh⟩ := fin2_lt (n := (i 1).val % 256 / 128) (by omega)
  unfold outWin outLabel
  rw [Finset.mem_filter, ← hp, ← hq, ← hh]
  exact ⟨fun H => (label_some c p q h k s).1 H.2, fun H => ⟨Finset.mem_univ _, (label_some c p q h k s).2 H⟩⟩

theorem mem_outWin_local (c : Dev nD) (i : S16384x1024.Idx) : i ∈ outWin c none ↔ (i 0).val / 4096 = row c := by
  have h0 : (i 0).val < 16384 := (i 0).isLt
  have h1 : (i 1).val < 1024 := (i 1).isLt
  obtain ⟨p, hp⟩ := fin4_lt (n := (i 0).val / 4096) (by omega)
  obtain ⟨q, hq⟩ := fin4_lt (n := (i 1).val / 256) (by omega)
  obtain ⟨h, hh⟩ := fin2_lt (n := (i 1).val % 256 / 128) (by omega)
  unfold outWin outLabel
  rw [Finset.mem_filter, ← hp, ← hq, ← hh]
  exact ⟨fun H => (label_none c p q h).1 H.2, fun H => ⟨Finset.mem_univ _, (label_none c p q h).2 H⟩⟩

theorem mem_inWin (c : Dev nD) (s : Fin 4) (i : S4096x4096.Idx) : i ∈ inWin c (some (some s)) ↔
    (i 1).val / 1024 = (row c + steps s) % 4 ∧ (i 1).val % 1024 / 256 = quarter c ∧ covers s ((i 1).val % 256 / 128) := by
  have h1 : (i 1).val < 4096 := (i 1).isLt
  obtain ⟨p, hp⟩ := fin4_lt (n := (i 1).val / 1024) (by omega)
  obtain ⟨q, hq⟩ := fin4_lt (n := (i 1).val % 1024 / 256) (by omega)
  obtain ⟨h, hh⟩ := fin2_lt (n := (i 1).val % 256 / 128) (by omega)
  unfold inWin inLabel
  rw [Finset.mem_filter, ← hp, ← hq, ← hh]
  exact ⟨fun H => (sourceLabel_slot c p q h s).1 H.2, fun H => ⟨Finset.mem_univ _, (sourceLabel_slot c p q h s).2 H⟩⟩

theorem mem_inWin_local (c : Dev nD) (i : S4096x4096.Idx) : i ∈ inWin c (some none) ↔ (i 1).val / 1024 = row c := by
  have h1 : (i 1).val < 4096 := (i 1).isLt
  obtain ⟨p, hp⟩ := fin4_lt (n := (i 1).val / 1024) (by omega)
  obtain ⟨q, hq⟩ := fin4_lt (n := (i 1).val % 1024 / 256) (by omega)
  obtain ⟨h, hh⟩ := fin2_lt (n := (i 1).val % 256 / 128) (by omega)
  unfold inWin inLabel
  rw [Finset.mem_filter, ← hp, ← hq, ← hh]
  exact ⟨fun H => (sourceLabel_local c p q h).1 H.2, fun H => ⟨Finset.mem_univ _, (sourceLabel_local c p q h).2 H⟩⟩

theorem slot_le : ∀ s, shift s + width s ≤ 256 := by decide

/-- A slot is a run of columns inside its quarter. -/
theorem covers_iff (s : Fin 4) (h : ℕ) (lt : h < 256) :
    covers s (h / 128) ↔ shift s ≤ h ∧ h < shift s + width s := by
  unfold covers
  fin_cases s <;> simp [shift, width] <;> omega

theorem mem_unit2 {n0 n1 : ℕ} {off : Fin 2 → ℕ} {w a b : ℕ} {inb} (hoff : off = ![a, b]) (i : (⟨2, ![n0, n1]⟩ : Shape).Idx) :
    i ∈ (Rect.unit (s := ⟨2, ![n0, n1]⟩) off (⟨2, ![4096, w]⟩ : Shape).size inb).set ↔
      (a ≤ (i 0).val ∧ (i 0).val < a + 4096) ∧ (b ≤ (i 1).val ∧ (i 1).val < b + w) := by
  subst hoff
  rw [Rect.mem_set_unit]
  exact ⟨fun H => ⟨H 0, H 1⟩, fun H x => by
    fin_cases x
    · exact H.1
    · exact H.2⟩

theorem oBlk_set (c : Dev nD) (k s : Fin 4) {off : Fin 2 → ℕ} {w : ℕ} {inb} (hoff : off = outOff c k s) (hw : w = width s) :
    (oBlk off w inb).view.set = outWin c (some (k, s)) := by
  subst hw
  refine (View.set_slice_whole main_v1 _).trans ?_
  ext i
  refine (mem_unit2 (n0 := 16384) (n1 := 1024) hoff i).trans ((?_ : _ ↔ _).trans (mem_outWin c k s i).symm)
  rw [covers_iff s _ (Nat.mod_lt _ (by decide))]
  have hs := slot_le s
  omega

theorem oBlk_set_local (c : Dev nD) {off : Fin 2 → ℕ} {inb} (hoff : off = ![4096 * row c, 0]) :
    (oBlk off 1024 inb).view.set = outWin c none := by
  refine (View.set_slice_whole main_v1 _).trans ?_
  ext i
  refine (mem_unit2 (n0 := 16384) (n1 := 1024) hoff i).trans ((?_ : _ ↔ _).trans (mem_outWin_local c i).symm)
  have h1 : (i 1).val < 1024 := (i 1).isLt
  omega

theorem xBlk_set (c : Dev nD) (s : Fin 4) {off : Fin 2 → ℕ} {w : ℕ} {inb} (hoff : off = inOff c s) (hw : w = width s) :
    (xBlk off w inb).view.set = inWin c (some (some s)) := by
  subst hw
  refine (View.set_slice_whole main_arg0 _).trans ?_
  ext i
  refine (mem_unit2 (n0 := 4096) (n1 := 4096) hoff i).trans ((?_ : _ ↔ _).trans (mem_inWin c s i).symm)
  rw [covers_iff s _ (Nat.mod_lt _ (by decide))]
  have h0 : (i 0).val < 4096 := (i 0).isLt
  have hs := slot_le s
  have hq := quarter_lt c
  omega

theorem xBlk_set_local (c : Dev nD) {off : Fin 2 → ℕ} {inb} (hoff : off = ![0, 1024 * row c]) :
    (xBlk off 1024 inb).view.set = inWin c (some none) := by
  refine (View.set_slice_whole main_arg0 _).trans ?_
  ext i
  refine (mem_unit2 (n0 := 4096) (n1 := 4096) hoff i).trans ((?_ : _ ↔ _).trans (mem_inWin_local c i).symm)
  have h0 : (i 0).val < 4096 := (i 0).isLt
  omega

/-! ## The contents -/

variable (m : (ℓ : Loc nD τ sig) → Buf (Elt F) ℓ)

/-- Device `d`'s operand, by row and column. -/
def operand (d : Dev nD) (r l : ℕ) (hr : r < 4096) (hl : l < 4096) : Elt F .f32 :=
  m ((d : Thread nD τ).loc main_arg0) (Shape.pair (d := ![4096, 4096]) ⟨r, hr⟩ ⟨l, hl⟩)

theorem column_lt (c : Dev nD) {l : ℕ} (h : l < 1024) : 1024 * row c + l < 4096 := by have := row_lt c; omega

/-- What device `c`'s result finally holds: in each row block, the columns of its own row position, of the operand
    of the block's origin. -/
def final (c : Dev nD) : Buf (Elt F) ((c : Thread nD τ).loc main_v1) := fun i =>
  operand m (origin c ((i 0).val / 4096) ((i 1).val / 256)) ((i 0).val % 4096) (1024 * row c + (i 1).val)
    (Nat.mod_lt _ (by decide)) (column_lt c (i 1).isLt)

theorem final_apply (c : Dev nD) (i : S16384x1024.Idx) (d : Dev nD) (r l : ℕ) (hr : r < 4096) (hl : l < 4096)
    (hd : origin c ((i 0).val / 4096) ((i 1).val / 256) = d) (er : (i 0).val % 4096 = r) (el : 1024 * row c + (i 1).val = l) :
    final m c i = operand m d r l hr hl := by
  subst hd er el; rfl

/-- An element read through a block of the operand. -/
theorem read_xBlk (d : Dev nD) {off : Fin 2 → ℕ} {w a b : ℕ} {inb} (hoff : off = ![a, b]) (x : (⟨2, ![4096, w]⟩ : Shape).Idx)
    (hr : a + (x 0).val < 4096) (hl : b + (x 1).val < 4096) :
    (xBlk off w inb).view.read (Elt F) (m ((d : Thread nD τ).loc main_arg0)) x = operand m d (a + (x 0).val) (b + (x 1).val) hr hl := by
  subst hoff
  refine (View.read_apply _ _).trans ?_
  show m _ _ = m _ _
  congr 1
  funext y
  apply Fin.ext
  fin_cases y
  · show a + 1 * (x 0).val = a + (x 0).val; omega
  · show b + 1 * (x 1).val = b + (x 1).val; omega

/-- A copy from a block of the operand into a block of the result leaves the final contents, once the block's origin
    and columns are right. -/
theorem write_operand (c d : Dev nD) {off off' : Fin 2 → ℕ} {w a b b' : ℕ} {inb inb'} (hoff : off = ![4096 * a, b]) (hoff' : off' = ![0, b'])
    (ha : a < 4) (hb : b' = 1024 * row c + b)
    (hd : ∀ j < w, origin c a ((b + j) / 256) = d)
    (fd : Buf (Elt F) ((c : Thread nD τ).loc main_v1)) :
    ∀ i ∈ (oBlk off w inb).view.set,
      (oBlk off w inb).view.write (Elt F) fd ((xBlk off' w inb').view.read (Elt F) (m ((d : Thread nD τ).loc main_arg0))) Finset.univ i
        = final m c i := by
  intro i hi
  obtain ⟨x, -, rfl⟩ := Finset.mem_map.mp hi
  refine (View.write_emb_of_mem _ _ (Finset.mem_univ x)).trans ?_
  have h0 : (x 0).val < 4096 := (x 0).isLt
  have h1 : (x 1).val < w := (x 1).isLt
  have hw : b' + w ≤ 4096 := by have := inb' 1; rw [hoff'] at this; exact this
  refine (show _ = (xBlk off' w inb').view.read (Elt F) (m ((d : Thread nD τ).loc main_arg0)) x from rfl).trans ?_
  rw [read_xBlk m d hoff' x (by omega) (by omega)]
  have e0 : (((oBlk off w inb).view.emb x) 0).val = 4096 * a + (x 0).val := by
    show off 0 + 1 * (x 0).val = _; rw [hoff]; show 4096 * a + 1 * (x 0).val = _; omega
  have e1 : (((oBlk off w inb).view.emb x) 1).val = b + (x 1).val := by
    show off 1 + 1 * (x 1).val = _; rw [hoff]; show b + 1 * (x 1).val = _; omega
  symm
  refine final_apply m c ((oBlk off w inb).view.emb x) d _ _ _ _ ?_ ?_ ?_
  · rw [e0, e1, show (4096 * a + (x 0).val) / 4096 = a by omega]; exact hd _ h1
  · rw [e0]; omega
  · rw [e1, hb]; omega

/-- The local copy. -/
theorem write_local (c : Dev nD) {off off' : Fin 2 → ℕ} {inb inb'} (hoff : off = ![4096 * row c, 0]) (hoff' : off' = ![0, 1024 * row c])
    (fd : Buf (Elt F) ((c : Thread nD τ).loc main_v1)) :
    ∀ i ∈ (oBlk off 1024 inb).view.set,
      (oBlk off 1024 inb).view.write (Elt F) fd ((xBlk off' 1024 inb').view.read (Elt F) (m ((c : Thread nD τ).loc main_arg0))) Finset.univ i
        = final m c i :=
  write_operand m c c hoff hoff' (row_lt c) rfl (fun _ _ => origin_self c _) fd

/-- Stage 0: device `c` sends from its operand along the row. -/
theorem write_row (c : Dev nD) (s : Fin 4) {off off' : Fin 2 → ℕ} {w : ℕ} {inb inb'}
    (hoff : off = outOff (partner (via 0 s) c) 0 s) (hoff' : off' = inOff c s) (hw : w = width s)
    (fd : Buf (Elt F) ((partner (via 0 s) c : Thread nD τ).loc main_v1)) :
    ∀ i ∈ (oBlk off w inb).view.set,
      (oBlk off w inb).view.write (Elt F) fd ((xBlk off' w inb').view.read (Elt F) (m ((c : Thread nD τ).loc main_arg0))) Finset.univ i
        = final m (partner (via 0 s) c) i := by
  refine write_operand m (partner (via 0 s) c) c (a := row c) (b := 256 * quarter c + shift s) ?_ hoff' (row_lt c) ?_ ?_ fd
  · rw [hoff]; unfold outOff; rw [rowOf_via, colOf_via]
  · rw [row_via]; omega
  · intro j hj
    have hs := slot_le s
    rw [show (256 * quarter c + shift s + j) / 256 = quarter c by omega]
    exact origin_row c s

/-- A window of device `c`'s result, held at its final contents, is the same window of a mirror's or a neighbour's. -/
theorem final_partner (c : Dev nD) (j : Fin 5) (hj : 3 ≤ j) (k s : Fin 4) (i : S16384x1024.Idx) (hi : i ∈ outWin c (some (k, s))) :
    final m (partner j c) i = final m c i := by
  have h0 : (i 0).val < 16384 := (i 0).isLt
  have h1 : (i 1).val < 1024 := (i 1).isLt
  obtain ⟨p, hp⟩ := fin4_lt (n := (i 0).val / 4096) (by omega)
  obtain ⟨q, hq⟩ := fin4_lt (n := (i 1).val / 256) (by omega)
  have hr := ((mem_outWin c k s i).1 hi).1
  refine final_apply m (partner j c) i _ _ _ _ _ ?_ rfl (by rw [row_partner j c hj])
  rw [← hp, ← hq]
  exact origin_partner j c p q hj (by rw [hp, hr]; exact rowOf_ne c s)

/-- Where a window that is passed on lies: at the same place on both devices. -/
theorem outOff_feeds (c : Dev nD) (k s : Fin 4) (hk : k ≠ 0) : outOff (partner (via k s) c) k s = outOff c (feeds k) s := by
  unfold outOff; rw [rowOf_partner _ _ _ (via_ge k s hk), colOf_feeds k s c hk]

theorem outWin_feeds (c : Dev nD) (k s : Fin 4) (hk : k ≠ 0) :
    outWin (partner (via k s) c) (some (k, s)) = outWin c (some (feeds k, s)) := by
  ext i
  rw [mem_outWin, mem_outWin, rowOf_partner _ _ _ (via_ge k s hk), colOf_feeds k s c hk]

/-- Stages 1 to 3: device `c` passes a window on. -/
theorem write_forward (c : Dev nD) (k s : Fin 4) (hk : k ≠ 0) {off : Fin 2 → ℕ} {w : ℕ} {inb inb'}
    (hoff : off = outOff c (feeds k) s) (hw : w = width s) (fd : Buf (Elt F) ((partner (via k s) c : Thread nD τ).loc main_v1)) :
    ∀ i ∈ (oBlk off w inb).view.set,
      (oBlk off w inb).view.write (Elt F) fd ((oBlk off w inb').view.read (Elt F) (final m c)) Finset.univ i
        = final m (partner (via k s) c) i := by
  intro i hi
  have hi' := hi
  rw [oBlk_set c (feeds k) s hoff hw] at hi'
  rw [final_partner m c _ (via_ge k s hk) _ s i hi']
  obtain ⟨x, -, rfl⟩ := Finset.mem_map.mp hi
  refine (View.write_emb_of_mem _ _ (Finset.mem_univ x)).trans ?_
  rfl

/-! ## The offsets the program computes -/

theorem off_local : ∀ c : Dev nD, k0_off1 c = ![4096 * row c, 0] ∧ k0_off2 c = ![0, 1024 * row c] := by decide +kernel

theorem off_source : ∀ c : Dev nD, k0_off4 c 0#32 = inOff c 0 ∧ k0_off4 c 128#32 = inOff c 1 ∧ k0_off6 c 2#32 = inOff c 2
    ∧ k0_off6 c 3#32 = inOff c 3 := by decide +kernel

theorem off_row : ∀ c : Dev nD, k0_off3 c 0#32 = outOff (partner (via 0 0) c) 0 0 ∧ k0_off3 c 128#32 = outOff (partner (via 0 1) c) 0 1
    ∧ k0_off5 c = outOff (partner (via 0 2) c) 0 2 ∧ k0_off5 c = outOff (partner (via 0 3) c) 0 3 := by decide +kernel

theorem off_first : ∀ c : Dev nD, k0_off7 c 0#32 = outOff c 0 0 ∧ k0_off7 c 128#32 = outOff c 0 1 ∧ k0_off8 c 2#32 = outOff c 0 2
    ∧ k0_off8 c 3#32 = outOff c 0 3 := by decide +kernel

theorem off_second : ∀ c : Dev nD, k0_off9 c 0#32 = outOff c 1 0 ∧ k0_off9 c 128#32 = outOff c 1 1 ∧ k0_off10 c 2#32 = outOff c 1 2
    ∧ k0_off10 c 3#32 = outOff c 1 3 := by decide +kernel

end Cert.KernelIdeal.Relay

end
-- ==== Proof.Protocol.lean ====
/-
The protocol, semaphore by semaphore, as a schedule of one round.

  barrier (regular)   five units, one from each partner: the partner's windows this device will write, at any contents
  exit (regular)      five units, one from each partner: nothing
  local               the local copy: the local window at its final contents, and the operand's local window back
  send k s            what the copy of stage k, slot s read: back
  receive k s         window (k, s) of this device's result at its final contents

A device pays in program order: five barrier signals; four copies of stage 0; for each slot the copies of stages 1
and 2; the copies of stage 3; five exit signals. It waits for the barrier before stage 0, for receive 0 s before
passing window (0, s) on at stages 1 and 2, for receive 1 s before passing window (1, s) on at stage 3, then for
receive 2 s and 3 s, for what it sent, for the local copy and, after its exit signals, for the exit.
The levels barrier 1, receive 0 s 2, receive 1 s 3, receive 2 s and 3 s 4, exit 5 increase along every such chain.
-/
module

public import proofs.«01_k».proof.Proof.Windows
public import Idealize.ShloMosaic.Lib.Pipeline.Launch
public import Idealize.ShloMosaic.Lib.Pipeline.Kit

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part beside the protocol's -/

abbrev Part : Type := URounds (GSem nD τ sig) (Fin 5)
abbrev Parts : Type := UR sig nD τ × Part

local notation "𝕄" => MT nD τ sig Unit (Elt F) ℕ Parts ℕ

abbrev EP : Emb (UR sig nD τ) (MT nD τ sig Unit (Elt F) ℕ Parts ℕ) := embL
abbrev ER : Emb Part (MT nD τ sig Unit (Elt F) ℕ Parts ℕ) := embR

/-! ## The semaphores -/

abbrev barS : Sem sig := (SemArray.scalar (sig.barrier 0 rfl) : Sems sig S_).sem
abbrev exitS : Sem sig := cc0_scoped0.sem
abbrev localS : DmaSem sig := cc0_scratch0.sem

def sendS (k s : Fin 4) : DmaSem sig := (⟨(![1, 9, 17, 21] k + s.val) % 33, Nat.mod_lt _ (by decide)⟩ : Fin 33)
def recvS (k s : Fin 4) : DmaSem sig := (⟨(![5, 13, 25, 29] k + s.val) % 33, Nat.mod_lt _ (by decide)⟩ : Fin 33)

/-- The groups of four semaphores after the local one: of what was sent (`true`) or received (`false`), at which stage. -/
def group : Fin 8 → Bool × Fin 4 :=
  ![(true, 0), (false, 0), (true, 1), (false, 1), (true, 2), (true, 3), (false, 2), (false, 3)]

/-- Which of the transfers' semaphores this is: the local copy's (`none`), or one of a stage and a slot. -/
def role (q : DmaSem sig) : Option (Bool × Fin 4 × Fin 4) :=
  if q.val = 0 then none else
    let g := group ⟨(q.val - 1) / 4 % 8, Nat.mod_lt _ (by decide)⟩
    some (g.1, g.2, ⟨(q.val - 1) % 4, Nat.mod_lt _ (by decide)⟩)

theorem role_local : role localS = none := by decide
theorem role_send : ∀ k s, role (sendS k s) = some (true, k, s) := by decide
theorem role_recv : ∀ k s, role (recvS k s) = some (false, k, s) := by decide

/-- What a copy of `w` columns counts. -/
def credit (w : ℕ) : ℕ := sig.dmaCredit .tc (Kind.tc.table .hbm) oM.view.buf ⟨2, ![4096, w]⟩ .f32

theorem credit_oBlk {off : Fin 2 → ℕ} {w : ℕ} {inb} : (oBlk off w inb).view.dmaCredit = credit w := rfl
theorem credit_xBlk {off : Fin 2 → ℕ} {w : ℕ} {inb} : (xBlk off w inb).view.dmaCredit = credit w := rfl

/-- The width of the copy a semaphore counts. -/
def roleWidth : Option (Bool × Fin 4 × Fin 4) → ℕ
  | none => 1024
  | some (_, _, s) => width s

theorem roleWidth_pos : ∀ o, 0 < roleWidth o := by decide

theorem credit_pos (o : Option (Bool × Fin 4 × Fin 4)) : 0 < credit (roleWidth o) :=
  sig.dmaCredit_pos _ _ _ _ _ (by
    refine Shape.numel_pos fun a => ?_
    have h4 : 0 < 4096 := by decide
    fin_cases a
    · exact h4
    · exact roleWidth_pos o)

/-- The units each duty of a cell adds. -/
def units : SemLoc sig → ℕ
  | .reg _ => 1
  | .dma q => credit (roleWidth (role q))

theorem units_send (k s : Fin 4) : units (.dma (sendS k s)) = credit (width s) := by
  show credit (roleWidth (role (sendS k s))) = _
  rw [role_send]; rfl
theorem units_recv (k s : Fin 4) : units (.dma (recvS k s)) = credit (width s) := by
  show credit (roleWidth (role (recvS k s))) = _
  rw [role_recv]; rfl

abbrev cell (c : Dev nD) (sm : SemLoc sig) : GSem nD τ sig := ((c : Thread nD τ), sm)

/-! ## What each cell hands over -/

variable (m : (ℓ : Loc nD τ sig) → Buf (Elt F) ℓ)

/-- A window of the operand; a window of the result at its final contents, and at any contents. -/
def inPts (c : Dev nD) (t : Option (Option (Fin 4))) : sProp 𝕄 :=
  ((c : Thread nD τ).loc main_arg0) ↦[inWin c t]{fullShare} m ((c : Thread nD τ).loc main_arg0)
def outPts (q : PosShare TreeShare) (c : Dev nD) (t : Option (Fin 4 × Fin 4)) : sProp 𝕄 :=
  ((c : Thread nD τ).loc main_v1) ↦[outWin c t]{q} final m c
def outAny (c : Dev nD) (t : Option (Fin 4 × Fin 4)) : sProp 𝕄 :=
  iprop(∃ f : Buf (Elt F) ((c : Thread nD τ).loc main_v1), ((c : Thread nD τ).loc main_v1) ↦[outWin c t]{fullShare} f)

instance inPts_storable (c : Dev nD) (t) : BI.Storable (upEmb : UEmb _ 𝕄) (inPts m c t) := by unfold inPts; infer_instance
instance outPts_storable (q) (c : Dev nD) (t) : BI.Storable (upEmb : UEmb _ 𝕄) (outPts m q c t) := by unfold outPts; infer_instance
instance outAny_storable (c : Dev nD) (t) : BI.Storable (upEmb : UEmb _ 𝕄) (outAny (F := F) c t) := by unfold outAny; infer_instance

/-- The share each stage reads a window with: stages 1 and 2 read the same window at once, half each. -/
def readShare : Fin 4 → PosShare TreeShare := ![fullShare, fullShare.left, fullShare.right, fullShare]

/-- What the copy of stage `k`, slot `s` reads. -/
def sentPts (c : Dev nD) (k s : Fin 4) : sProp 𝕄 :=
  if k = 0 then inPts m c (some (some s)) else outPts m (readShare k) c (some (feeds k, s))

/-- What a transfer's cell hands over. -/
def dmaPay (c : Dev nD) : Option (Bool × Fin 4 × Fin 4) → sProp 𝕄
  | none => iprop(outPts m fullShare c none ∗ inPts m c (some none))
  | some (true, k, s) => sentPts m c k s
  | some (false, k, s) => outPts m fullShare c (some (k, s))

/-- The windows a device's partner `j` writes on it. -/
def writtenBy (j : Fin 5) : Finset (Fin 4 × Fin 4) := Finset.univ.filter fun t => via t.1 t.2 = j

/-- What partner `j` hands over at the barrier: its windows that this device will write. -/
def regPay (c : Dev nD) (q : Sem sig) (j : Fin 5) : sProp 𝕄 :=
  if q = barS then bigSep (writtenBy j) fun t => outAny (partner j c) (some t) else iprop(emp)

def pay (c : Dev nD) : SemLoc sig → Fin 5 → sProp 𝕄
  | .reg q, j => regPay c q j
  | .dma q, _ => dmaPay m c (role q)

instance pay_storable (c : Dev nD) (sm : SemLoc sig) (j : Fin 5) : BI.Storable (upEmb : UEmb _ 𝕄) (pay m c sm j) := by
  rcases sm with q | q
  · show BI.Storable _ (regPay c q j)
    unfold regPay; split <;> infer_instance
  · show BI.Storable _ (dmaPay m c (role q))
    rcases role q with _ | ⟨_ | _, k, s⟩
    · show BI.Storable _ iprop(_ ∗ _); infer_instance
    · show BI.Storable _ (outPts m _ c _); infer_instance
    · show BI.Storable _ (sentPts m c k s); unfold sentPts; split <;> infer_instance

def dutySet : SemLoc sig → Finset (Fin 5)
  | .reg _ => Finset.univ
  | .dma _ => {0}

def sched : Rounds.Schedule (GSem nD τ sig) (Fin 5) 𝕄 where
  duties g r := if r = 0 ∧ g.1.2 = .tc then dutySet g.2 else ∅
  unitless _ := False
  amount g _ _ := units g.2
  payload g _ j := pay m g.1.1 g.2 j
  amount_pos g _ _ _ := by
    rcases g.2 with q | q
    · exact Nat.one_pos
    · exact credit_pos _

instance sched_storable (g : GSem nD τ sig) (r : ℕ) (j : Fin 5) :
    BI.Storable (upEmb : UEmb _ 𝕄) ((sched m).payload g r j) := pay_storable m _ _ _

theorem duties_now (c : Dev nD) (sm : SemLoc sig) : (sched m).duties (cell c sm) 0 = dutySet sm := by
  dsimp only [sched]; exact if_pos ⟨rfl, rfl⟩
theorem duties_later (g : GSem nD τ sig) : ∀ r, 1 ≤ r → (sched m).duties g r = ∅ := fun r hr => by
  dsimp only [sched]; exact if_neg fun h => by omega

theorem expect_now (c : Dev nD) (sm : SemLoc sig) : (sched m).expect (cell c sm) 0 = (dutySet sm).card * units sm := by
  unfold Schedule.expect Schedule.amountOf
  rw [duties_now]
  show ∑ _ ∈ dutySet sm, units sm = _
  rw [Finset.sum_const, smul_eq_mul]

/-! ## Levels and debts -/

def level : SemLoc sig → ℕ
  | .reg q => if q = barS then 1 else 5
  | .dma q => match role q with
    | some (false, k, _) => ![2, 3, 4, 4] k
    | _ => 0

def L (g : GSem nD τ sig) : Finset Unit := if g.1.2 = .tc then {()} else ∅
def lv (g : GSem nD τ sig) (_ : Unit) : ℕ := level g.2

theorem L_of_ne (g : GSem nD τ sig) (h : g.1.2 ≠ .tc) : L g = ∅ := if_neg h
theorem L_cell (c : Dev nD) (sm : SemLoc sig) : L (cell c sm) = {()} := if_pos rfl

/-- A payment still to be made: to which partner, onto which of its semaphores. -/
abbrev Payment : Type := Fin 5 × SemLoc sig

/-- What a device owes while the payments in the list are outstanding, the next one first. -/
def owed (c : Dev nD) : List Payment → CellTallies nD τ sig Unit
  | [] => 0
  | p :: l => owed c l + tallyAt (cell (partner p.1 c) p.2) () (units p.2)

theorem owed_pos {c : Dev nD} {g : GSem nD τ sig} {u : Unit} : ∀ {l : List Payment}, 0 < owed c l g u →
    ∃ p ∈ l, g = cell (partner p.1 c) p.2
  | [], h => absurd h (Nat.lt_irrefl 0)
  | p :: l, h => by
    unfold owed at h
    rw [Pi.add_apply, Finsupp.add_apply, tallyAt_apply] at h
    by_cases hg : g = cell (partner p.1 c) p.2 ∧ u = ()
    · exact ⟨p, List.mem_cons_self, hg.1⟩
    · rw [if_neg hg, Nat.add_zero] at h
      obtain ⟨p', hp, e⟩ := owed_pos h
      exact ⟨p', List.mem_cons_of_mem _ hp, e⟩

/-- A device may wait on a cell below everything it still owes. -/
theorem mayWait (c : Dev nD) (sm : SemLoc sig) (l : List Payment) (h : ∀ p ∈ l, level sm < level p.2) :
    (levAts L lv : sProp 𝕄) ⊢ MayWait (c : Thread nD τ) sm () (owed c l) :=
  MayOwe.of_cut (L := L) (lev := lv) (level sm)
    (fun p hp => by rw [Finset.mem_singleton.mp hp]; exact (L_cell c sm).symm ▸ Finset.mem_singleton_self _)
    (fun g u hg => by obtain ⟨p, -, rfl⟩ := owed_pos hg; exact (L_cell _ _).symm ▸ Finset.mem_singleton_self _)
    (fun p hp => by rw [Finset.mem_singleton.mp hp]; exact le_refl _)
    (fun g u hg => by obtain ⟨p, hp, rfl⟩ := owed_pos hg; exact h p hp)

/-- Each device turns each payment to a different device: over the mesh, a cell is owed its units once for each
    payment onto its semaphore. -/
theorem sum_owed (c : Dev nD) (sm : SemLoc sig) : ∀ l : List Payment,
    ∑ d, owed d l (cell c sm) () = (l.countP fun p => p.2 = sm) * units sm
  | [] => by simp [owed]
  | p :: l => by
    have key : ∑ d, tallyAt (cell (partner p.1 d) p.2) () (units p.2) (cell c sm) () = if p.2 = sm then units sm else 0 := by
      simp only [tallyAt_apply, and_true]
      by_cases h : p.2 = sm
      · rw [if_pos h, ← h]
        have e : ∀ d, (cell c p.2 = cell (partner p.1 d) p.2) ↔ d = partner (back p.1) c := fun d => by
          constructor
          · intro e
            have e' : c = partner p.1 d := congrArg (fun g : GSem nD τ sig => g.1.1) e
            rw [e', partner_back]
          · rintro rfl
            rw [show partner p.1 (partner (back p.1) c) = c from (turn p.1).right_inv c]
        simp only [e]
        rw [Finset.sum_ite_eq' Finset.univ, if_pos (Finset.mem_univ _)]
      · rw [if_neg h]
        refine Finset.sum_eq_zero fun d _ => if_neg fun e => h ?_
        exact (congrArg Prod.snd e).symm
    simp only [owed, Pi.add_apply, Finsupp.add_apply, Finset.sum_add_distrib]
    rw [sum_owed c sm l, key, List.countP_cons]
    by_cases h : p.2 = sm
    · simp [h, Nat.add_mul]
    · simp [h]

/-- The payments of the program, in its order. -/
def exits : List Payment := [(0, .reg exitS), (1, .reg exitS), (2, .reg exitS), (3, .reg exitS), (4, .reg exitS)]
def sends (k : Fin 4) : List Payment := [(via k 0, .dma (recvS k 0)), (via k 1, .dma (recvS k 1)), (via k 2, .dma (recvS k 2)), (via k 3, .dma (recvS k 3))]
def middle : List Payment :=
  [(via 1 0, .dma (recvS 1 0)), (via 2 0, .dma (recvS 2 0)), (via 1 1, .dma (recvS 1 1)), (via 2 1, .dma (recvS 2 1)),
   (via 1 2, .dma (recvS 1 2)), (via 2 2, .dma (recvS 2 2)), (via 1 3, .dma (recvS 1 3)), (via 2 3, .dma (recvS 2 3))]
def debts : List Payment :=
  [(0, .reg barS), (1, .reg barS), (2, .reg barS), (3, .reg barS), (4, .reg barS)] ++ (sends 0 ++ (middle ++ (sends 3 ++ exits)))

end Cert.KernelIdeal.Relay

end
-- ==== Proof.Steps.lean ====
/-
One rule per kind of operation, at a symbolic device: signal a partner, wait for five signals, send along a stage,
copy locally, wait for a transfer. Each wait closes its cell: no cell is used twice.
-/
module

public import proofs.«01_k».proof.Proof.Protocol

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Parts ℕ

variable (m : (ℓ : Loc nD τ sig) → Buf (Elt F) ℓ)

abbrev 𝒱₀ : Variants := Variants.none

/-- The invariants of all cells, and that each is at its round. -/
def records (K : Dev nD × SemLoc sig → ℕ) : sProp 𝕄 :=
  iprop((bigSep Finset.univ fun x : Dev nD × SemLoc sig => cellInv ER (sched m) (K x) (cell x.1 x.2))
    ∗ (bigSep Finset.univ fun x : Dev nD × SemLoc sig => (reached ER (cell x.1 x.2) 0 : sProp 𝕄)))

instance records_persistent (K) : BI.Persistent (records m K) := by unfold records; infer_instance

theorem records_inv (K) (c : Dev nD) (sm : SemLoc sig) : records m K ⊢ cellInv ER (sched m) (K (c, sm)) (cell c sm) :=
  sep_elim_left.trans (bigSep_elim (Finset.mem_univ (c, sm)))

theorem records_reached (K) (c : Dev nD) (sm : SemLoc sig) : records m K ⊢ reached ER (cell c sm) 0 :=
  sep_elim_right.trans (bigSep_elim (Finset.mem_univ (c, sm)))

/-- What every step relies on. -/
def env (K : Dev nD × SemLoc sig → ℕ) : sProp 𝕄 := iprop(records m K ∗ levAts L lv)

instance env_persistent (K) : BI.Persistent (env m K) := by unfold env; infer_instance

/-- What device `c` owes, whatever it has waited on. -/
def held (c : Dev nD) (l : List Payment) : sProp 𝕄 := iprop(∃ W : Waits sig Unit, owes (c : Thread nD τ) (owed c l) W)

/-- The weakest precondition on device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} (K : Dev nD × SemLoc sig → ℕ) (c : Dev nD)

/-- Signal partner `j`. -/
theorem step_signal (q : Sem sig) (j : Fin 5) (l : List Payment) {d : Dev nD} (hd : d = partner j c)
    {k : PUnit → Prog (TpuEff nD τ sig (Elt F) Λ₀ .tc) α} {Q : α → sProp 𝕄} :
    iprop(env m K ∗ held c ((j, .reg q) :: l) ∗ dutyTok ER (cell (partner j c) (.reg q)) 0 (back j) ∗ regPay (partner j c) q (back j))
      ⊢ iprop((held c l -∗ runs c (k ⟨⟩) Q)
          -∗ runs c (.op (.semSignal (d, .tc) q (1#32 : BitVec 32).toInt) k) Q) := by
  subst hd
  have hp : regPay (partner j c) q (back j) = (sched m).payload (cell (partner j c) (.reg q)) 0 (back j) := rfl
  unfold env held
  iintro ⟨⟨#Hr, #Hl⟩, ⟨%W, Ho⟩, Ht, Hp⟩ Hk
  iapply (Rounds.wp_signal 𝒱₀ ER (sched m) (c : Thread nD τ) none (dst := (partner j c : Thread nD τ)) (κ := K (partner j c, .reg q))
      (d := back j) (r := 0) (by rw [show (sched m).duties ((partner j c : Thread nD τ), .reg q) 0 = _ from duties_now m _ _]; exact Finset.mem_univ _)
      ((show (sched m).amount (cell (partner j c) (.reg q)) 0 (back j) = 1 from rfl).trans (by decide)) () (owed c l) rfl) $$ [Ho Ht Hp]
  · isplitr; · iapply (records_inv m K (partner j c) (.reg q)); iexact Hr
    isplitl [Ho]; · iexact Ho
    isplitl [Ht]; · iexact Ht
    isplitl [Hp]
    · iapply (Entails.of_eq hp); iexact Hp
    iapply (records_reached m K (partner j c) (.reg q)); iexact Hr
  iintro Ho
  iapply Hk
  iexists W; iexact Ho

/-- Wait for a cell's round, and close the cell. -/
theorem step_wait (sm : SemLoc sig) (l : List Payment) (hl : ∀ p ∈ l, level sm < level p.2)
    {w : TpuEff nD τ sig (Elt F) Λ₀ .tc PUnit} {n : ℕ}
    (hw : ∀ P : PUnit → sProp 𝕄, wpE (defs₀ (F := F)) 𝒱₀ (c : Thread nD τ) none Set.univ w P = waitSpec (c : Thread nD τ) Set.univ sm n P)
    (hn : n = (dutySet sm).card * units sm)
    {k : PUnit → Prog (TpuEff nD τ sig (Elt F) Λ₀ .tc) α} {Q : α → sProp 𝕄} :
    iprop(env m K ∗ held c l ∗ cred (tallyAt (cell c sm) () n) ∗ atPos ER (cell c sm) 0 ∅ 0)
      ⊢ iprop(((held c l ∗ semVal (cell c sm) 0 ∗ bigSep (dutySet sm) fun j => pay m c sm j) -∗ runs c (k ⟨⟩) Q)
          -∗ runs c (.op w k) Q) := by
  unfold env held
  iintro ⟨⟨#Hr, #Hl⟩, ⟨%W, Ho⟩, Hc, Ha⟩ Hk
  iapply (Rounds.wp_wait_rest_token 𝒱₀ ER (sched m) (c : Thread nD τ) none (κ := K (c, sm)) hw (Set.mem_univ _) ()
      (O := owed c l) (W := W) (R := 0) (m := 0) (T := ∅) (by rw [Nat.zero_add, hn]; exact (expect_now m c sm).symm)) $$ [Ho Hc Ha]
  · isplitr; · iapply (records_inv m K c sm); iexact Hr
    isplitl [Hc]; · iexact Hc
    isplitl [Ho]; · iexact Ho
    isplitr; · iapply (mayWait c sm l hl); iexact Hl
    iexact Ha
  iintro ⟨Ho, Ha, -, Hp⟩
  imod (Rounds.cell_close ER (sched m) (Set.mem_univ (K (c, sm))) (fun h => h) (R := 0 + 1) (duties_later m (cell c sm))) $$ [Ha] with Hz
  · isplitr; · iapply (records_inv m K c sm); iexact Hr
    iexact Ha
  iapply Hk
  isplitl [Ho]; · iexists _; iexact Ho
  isplitl [Hz]; · iexact Hz
  have e : (bigSep ((sched m).duties (cell c sm) 0 \ ∅) fun j => (sched m).payload (cell c sm) 0 j)
      = bigSep (dutySet sm) fun j => pay m c sm j := by rw [Finset.sdiff_empty, duties_now]; rfl
  ihave Hp' := (Entails.of_eq e) $$ Hp
  iexact Hp'

/-- Wait for five signals. -/
theorem step_wait_reg (q : Sem sig) (l : List Payment) (hl : ∀ p ∈ l, level (.reg q) < level p.2)
    {k : PUnit → Prog (TpuEff nD τ sig (Elt F) Λ₀ .tc) α} {Q : α → sProp 𝕄} :
    iprop(env m K ∗ held c l ∗ cred (tallyAt (cell c (.reg q)) () 5) ∗ atPos ER (cell c (.reg q)) 0 ∅ 0)
      ⊢ iprop(((held c l ∗ semVal (cell c (.reg q)) 0 ∗ bigSep Finset.univ fun j => regPay c q j) -∗ runs c (k ⟨⟩) Q)
          -∗ runs c (.op (.semWait q (5#32 : BitVec 32).toInt) k) Q) :=
  step_wait m K c (.reg q) l hl (wpE_semWait_eq 𝒱₀ (c : Thread nD τ) none Set.univ) rfl

/-- Wait for a transfer. -/
theorem step_wait_dma (q : DmaSem sig) (r : Option (Bool × Fin 4 × Fin 4)) (hr : role q = r) (l : List Payment)
    (hl : ∀ p ∈ l, level (.dma q) < level p.2) {sp sp' : Space} {s s' : Shape} {e e' : EltTy} {q' : DmaSem sig} (hq : q' = q)
    {src : Memref sig .tc sp' s' e'} {dst : Memref sig .tc sp s e} {hsrc : src.view.WordExact} {hdst : dst.view.WordExact}
    (hN : dst.view.dmaCredit = credit (roleWidth r)) {k : PUnit → Prog (TpuEff nD τ sig (Elt F) Λ₀ .tc) α} {Q : α → sProp 𝕄} :
    iprop(env m K ∗ held c l ∗ cred (tallyAt (cell c (.dma q)) () (credit (roleWidth r))) ∗ atPos ER (cell c (.dma q)) 0 ∅ 0)
      ⊢ iprop(((held c l ∗ semVal (cell c (.dma q)) 0 ∗ dmaPay m c r) -∗ runs c (k ⟨⟩) Q)
          -∗ runs c (.op (.waitDma2 q' src dst hsrc hdst) k) Q) := by
  subst hr hq
  rw [← hN]
  have H := step_wait m K c (.dma q') l hl (w := .waitDma2 q' src dst hsrc hdst)
    (wpE_waitDma2_eq 𝒱₀ (c : Thread nD τ) none Set.univ) (hN.trans (Nat.one_mul _).symm) (k := k) (Q := Q)
  rw [show (dutySet (.dma q')) = {0} from rfl, bigSep_singleton] at H
  exact H

/-- Send along stage `k`, slot `s`. -/
theorem step_send (k s : Fin 4) (l : List Payment) {w : ℕ} (hw : w = width s)
    {d : Dev nD} (hd : d = partner (via k s) c) {qs qr : DmaSem sig} (hqs : qs = sendS k s) (hqr : qr = recvS k s)
    {src : Memref sig .tc .hbm ⟨2, ![4096, w]⟩ .f32} {off : Fin 2 → ℕ} {inb} (hoff : off = outOff (partner (via k s) c) k s)
    {q : PosShare TreeShare} {fs : Buf (Elt F) (src.view.loc (c : Thread nD τ))}
    (hfrom : sentPts m c k s = (src.view.loc (c : Thread nD τ) ↦[src.view.set]{q} fs : sProp 𝕄))
    (hland : ∀ (fd : Buf (Elt F) ((partner (via k s) c : Thread nD τ).loc main_v1)), ∀ i ∈ (oBlk off w inb).view.set,
      (oBlk off w inb).view.write (Elt F) fd (src.view.read (Elt F) fs) Finset.univ i = final m (partner (via k s) c) i)
    {hsc : (oBlk off w inb : Memref sig (Dev.tc d : Thread nD τ).2.kind .hbm ⟨2, ![4096, w]⟩ .f32).view.ref.isScScratch = false}
    {hsrc : src.view.WordExact} {hdst : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via k s, .dma (recvS k s)) :: l) ∗ sentPts m c k s ∗ outAny (partner (via k s) c) (some (k, s))
        ∗ dutyTok ER (cell c (.dma (sendS k s))) 0 0 ∗ dutyTok ER (cell (partner (via k s) c) (.dma (recvS k s))) 0 0)
      ⊢ iprop(((held c l ∗ cred (tallyAt (cell c (.dma (sendS k s))) () (credit (width s)))) -∗ runs c (kk ⟨⟩) Q)
          -∗ runs c (.op (.enqueueDma src (.remote (Dev.tc d : Thread nD τ) (oBlk off w inb) (.dma qs) hsc) (.dma qr) hsrc hdst hsem) kk) Q) := by
  subst hd hqs hqr
  have hset : (oBlk off w inb).view.set = outWin (partner (via k s) c) (some (k, s)) := oBlk_set _ k s hoff hw
  have hpay : ∀ fd : Buf (Elt F) ((partner (via k s) c : Thread nD τ).loc main_v1),
      (((oBlk off w inb).view.loc (partner (via k s) c : Thread nD τ)) ↦[(oBlk off w inb).view.set]{fullShare}
          ((oBlk off w inb).view.write (Elt F) fd (src.view.read (Elt F) fs) Finset.univ) : sProp 𝕄)
        = outPts m fullShare (partner (via k s) c) (some (k, s)) := fun fd => by
    rw [pointsTo_congr (hland fd), hset]; rfl
  have hp1 : (sched m).payload (cell c (.dma (sendS k s))) 0 0 = sentPts m c k s := by
    show dmaPay m c (role (sendS k s)) = _; rw [role_send]; rfl
  have hp2 : (sched m).payload (cell (partner (via k s) c) (.dma (recvS k s))) 0 0 = outPts m fullShare (partner (via k s) c) (some (k, s)) := by
    show dmaPay m _ (role (recvS k s)) = _; rw [role_recv]; rfl
  have hn : (oBlk off w inb).view.dmaCredit = credit (width s) := hw ▸ rfl
  unfold env held outAny
  iintro ⟨⟨#Hr, #Hl⟩, ⟨%W, Ho⟩, Hs, ⟨%fd, Hd⟩, Ht1, Ht2⟩ Hk
  ihave Hs := (Entails.of_eq hfrom) $$ Hs
  rw [← hset]
  iapply (Rounds.wp_send_pointsTo 𝒱₀ ER (sched m) (c : Thread nD τ) none (c' := (partner (via k s) c : Thread nD τ)) (sem := .dma (recvS k s)) (sS := .dma (sendS k s))
    (dst := oBlk off w inb) (κ₁ := K (c, .dma (sendS k s)))
    (κ₂ := K (partner (via k s) c, .dma (recvS k s))) (r₁ := 0) (r₂ := 0) (d₁ := 0) (d₂ := 0) (fd := fd)
    (by rw [show (sched m).duties ((c : Thread nD τ), _) 0 = _ from duties_now m _ _]; exact Finset.mem_singleton_self _)
    (by rw [show (sched m).duties (Dev.tc (partner (via k s) c), _) 0 = _ from duties_now m _ _]; exact Finset.mem_singleton_self _)
    () () (credit (width s)) hn (units_send k s) (units_recv k s) (owed c l) (by rw [← units_recv k s]) (W := W)
    (Entails.of_eq (hfrom.symm.trans hp1.symm)) (Entails.of_eq ((hpay fd).trans hp2.symm))) $$ [Ho Hs Hd Ht1 Ht2]
  · isplitr; · iapply (records_inv m K c (.dma (sendS k s))); iexact Hr
    isplitr; · iapply (records_inv m K (partner (via k s) c) (.dma (recvS k s))); iexact Hr
    isplitl [Hs]; · iexact Hs
    isplitl [Hd]; · iexact Hd
    isplitl [Ho]; · iexact Ho
    isplitl [Ht1]; · iexact Ht1
    isplitr; · iapply (records_reached m K c (.dma (sendS k s))); iexact Hr
    isplitl [Ht2]; · iexact Ht2
    iapply (records_reached m K (partner (via k s) c) (.dma (recvS k s))); iexact Hr
  iintro ⟨Hc, Ho⟩
  iapply Hk
  isplitl [Ho]; · iexists W; iexact Ho
  iexact Hc

/-- Stage 0: from the operand. -/
theorem step_row (s : Fin 4) (l : List Payment) {w : ℕ} (hw : w = width s)
    {d : Dev nD} (hd : d = partner (via 0 s) c) {qs qr : DmaSem sig} (hqs : qs = sendS 0 s) (hqr : qr = recvS 0 s)
    {off off' : Fin 2 → ℕ} {inb inb'} (hoff : off = outOff (partner (via 0 s) c) 0 s) (hoff' : off' = inOff c s)
    {hsc : (oBlk off w inb : Memref sig (Dev.tc d : Thread nD τ).2.kind .hbm ⟨2, ![4096, w]⟩ .f32).view.ref.isScScratch = false}
    {hsrc : (xBlk off' w inb').view.WordExact} {hdst : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via 0 s, .dma (recvS 0 s)) :: l) ∗ sentPts m c 0 s ∗ outAny (partner (via 0 s) c) (some (0, s))
        ∗ dutyTok ER (cell c (.dma (sendS 0 s))) 0 0 ∗ dutyTok ER (cell (partner (via 0 s) c) (.dma (recvS 0 s))) 0 0)
      ⊢ iprop(((held c l ∗ cred (tallyAt (cell c (.dma (sendS 0 s))) () (credit (width s)))) -∗ runs c (kk ⟨⟩) Q)
          -∗ runs c (.op (.enqueueDma (xBlk off' w inb') (.remote (Dev.tc d : Thread nD τ) (oBlk off w inb) (.dma qs) hsc) (.dma qr) hsrc hdst hsem) kk) Q) :=
  step_send m K c 0 s l hw hd hqs hqr (src := xBlk off' w inb') (inb := inb) hoff (q := fullShare) (fs := m ((c : Thread nD τ).loc main_arg0))
    (by rw [xBlk_set c s hoff' hw]; rfl) (fun fd => write_row m c s hoff hoff' hw fd)

/-- Stages 1 to 3: a window of the result, passed on. -/
theorem step_forward (k s : Fin 4) (hk : k ≠ 0) (l : List Payment) {w : ℕ} (hw : w = width s)
    {d : Dev nD} (hd : d = partner (via k s) c) {qs qr : DmaSem sig} (hqs : qs = sendS k s) (hqr : qr = recvS k s)
    {off : Fin 2 → ℕ} {inb inb'} (hoff : off = outOff c (feeds k) s)
    {hsc : (oBlk off w inb : Memref sig (Dev.tc d : Thread nD τ).2.kind .hbm ⟨2, ![4096, w]⟩ .f32).view.ref.isScScratch = false}
    {hsrc : (oBlk off w inb').view.WordExact} {hdst : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via k s, .dma (recvS k s)) :: l) ∗ sentPts m c k s ∗ outAny (partner (via k s) c) (some (k, s))
        ∗ dutyTok ER (cell c (.dma (sendS k s))) 0 0 ∗ dutyTok ER (cell (partner (via k s) c) (.dma (recvS k s))) 0 0)
      ⊢ iprop(((held c l ∗ cred (tallyAt (cell c (.dma (sendS k s))) () (credit (width s)))) -∗ runs c (kk ⟨⟩) Q)
          -∗ runs c (.op (.enqueueDma (oBlk off w inb') (.remote (Dev.tc d : Thread nD τ) (oBlk off w inb) (.dma qs) hsc) (.dma qr) hsrc hdst hsem) kk) Q) :=
  step_send m K c k s l hw hd hqs hqr (src := oBlk off w inb') (inb := inb) (hoff.trans (outOff_feeds c k s hk).symm) (q := readShare k) (fs := final m c)
    (by unfold sentPts; rw [if_neg hk]; unfold outPts; rw [oBlk_set c (feeds k) s hoff hw])
    (fun fd => write_forward m c k s hk hoff hw fd)

/-- The local copy. -/
theorem step_local {off off' : Fin 2 → ℕ} {inb inb'} (hoff : off = ![4096 * row c, 0]) (hoff' : off' = ![0, 1024 * row c])
    {hsrc : (xBlk off' 1024 inb').view.WordExact} {hdst : (oBlk off 1024 inb).view.WordExact}
    {hsem : DmaTarget.Typed .hbm (.dma localS) (DmaTarget.here (nD := nD) (τ := τ) (p := .tc) (oBlk off 1024 inb))}
    {kk : PUnit → Prog (TpuEff nD τ sig (Elt F) Λ₀ .tc) α} {Q : α → sProp 𝕄} :
    iprop(env m K ∗ inPts m c (some none) ∗ outAny c none ∗ dutyTok ER (cell c (.dma localS)) 0 0)
      ⊢ iprop((cred (tallyAt (cell c (.dma localS)) () (credit 1024)) -∗ runs c (kk ⟨⟩) Q)
          -∗ runs c (.op (.enqueueDma (xBlk off' 1024 inb') (.here (oBlk off 1024 inb)) (.dma localS) hsrc hdst hsem) kk) Q) := by
  have hp : (sched m).payload (cell c (.dma localS)) 0 0 = iprop(outPts m fullShare c none ∗ inPts m c (some none)) := by
    show dmaPay m c (role localS) = _; rw [role_local]; rfl
  have hu : (sched m).amount (cell c (.dma localS)) 0 0 = credit 1024 := by
    show credit (roleWidth (role localS)) = _; rw [role_local]; rfl
  unfold env outAny inPts
  rw [← oBlk_set_local c hoff (inb := inb), ← xBlk_set_local c hoff' (inb := inb')]
  iintro ⟨⟨#Hr, #Hl⟩, Hs, ⟨%fd, Hd⟩, Ht⟩
  iapply (Rounds.wp_copy_pointsTo 𝒱₀ ER (sched m) (c : Thread nD τ) none (κ := K (c, .dma localS)) (r := 0) (d := 0) (fd := fd)
    (q := fullShare) (fs := m ((c : Thread nD τ).loc main_arg0))
    (by rw [show (sched m).duties ((c : Thread nD τ), _) 0 = _ from duties_now m _ _]; exact Finset.mem_singleton_self _)
    () (credit 1024) rfl hu (by
      rw [show (sched m).payload ((c : Thread nD τ), _) 0 0 = _ from hp, pointsTo_congr (write_local m c hoff hoff' fd)]
      unfold outPts inPts
      rw [← oBlk_set_local c hoff (inb := inb), ← xBlk_set_local c hoff' (inb := inb')]))
  isplitr; · iapply (records_inv m K c (.dma localS)); iexact Hr
  isplitl [Hs]; · iexact Hs
  isplitl [Hd]; · iexact Hd
  isplitl [Ht]; · iexact Ht
  iapply (records_reached m K c (.dma localS)); iexact Hr

end Cert.KernelIdeal.Relay

end
-- ==== Proof.Slots.lean ====
/-
The rules of one slot: what a device holds for each copy before and after it, and one rule for each way the program
mixes a slot's waits and copies. The rules for five signals and for four waits in a row are here too.
-/
module

public import proofs.«01_k».proof.Proof.Steps

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Parts ℕ

variable (m : (ℓ : Loc nD τ sig) → Buf (Elt F) ℓ)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The semaphore a copy counts on: where it is sent from (`true`), or where it lands. -/
def port : Bool → Fin 4 → Fin 4 → DmaSem sig
  | true => sendS
  | false => recvS

theorem role_port (b : Bool) (k s : Fin 4) : role (port b k s) = some (b, k, s) := by
  cases b
  · exact role_recv k s
  · exact role_send k s

/-- The right to copy: the tokens at both ends, the position at the near end, and the window at the far end. -/
def tokens (c : Dev nD) (k s : Fin 4) : sProp 𝕄 :=
  iprop(dutyTok ER (cell c (.dma (sendS k s))) 0 0 ∗ dutyTok ER (cell (partner (via k s) c) (.dma (recvS k s))) 0 0)
def standing (c : Dev nD) (q : DmaSem sig) : sProp 𝕄 := atPos ER (cell c (.dma q)) 0 ∅ 0
def sendable (c : Dev nD) (k s : Fin 4) : sProp 𝕄 :=
  iprop(tokens c k s ∗ standing c (port true k s) ∗ outAny (partner (via k s) c) (some (k, s)))
/-- A copy to wait for. -/
def awaited (c : Dev nD) (b : Bool) (k s : Fin 4) : sProp 𝕄 :=
  iprop(cred (tallyAt (cell c (.dma (port b k s))) () (credit (width s))) ∗ standing c (port b k s))
/-- A semaphore no longer in use. -/
def closed (c : Dev nD) (sm : SemLoc sig) : sProp 𝕄 := semVal (cell c sm) 0
/-- A copy waited for. -/
def arrived (c : Dev nD) (b : Bool) (k s : Fin 4) : sProp 𝕄 :=
  iprop(closed c (.dma (port b k s)) ∗ dmaPay m c (some (b, k, s)))

variable {α : Type} (K : Dev nD × SemLoc sig → ℕ) (c : Dev nD)

/-- Stage 0. -/
theorem slot_row (s : Fin 4) (l : List Payment) {w : ℕ} (hw : w = width s)
    {d : Dev nD} (hd : d = partner (via 0 s) c) {qs qr : DmaSem sig} (hqs : qs = port true 0 s) (hqr : qr = port false 0 s)
    {off off' : Fin 2 → ℕ} {inb inb'} (hoff : off = outOff (partner (via 0 s) c) 0 s) (hoff' : off' = inOff c s)
    {hsc : (oBlk off w inb : Memref sig (Dev.tc d : Thread nD τ).2.kind .hbm ⟨2, ![4096, w]⟩ .f32).view.ref.isScScratch = false}
    {hsrc : (xBlk off' w inb').view.WordExact} {hdst : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via 0 s, .dma (recvS 0 s)) :: l) ∗ inPts m c (some (some s)) ∗ sendable c 0 s)
      ⊢ iprop(((held c l ∗ awaited c true 0 s) -∗ runs c (kk ⟨⟩) Q)
          -∗ runs c (.op (.enqueueDma (xBlk off' w inb') (.remote (Dev.tc d : Thread nD τ) (oBlk off w inb) (.dma qs) hsc) (.dma qr) hsrc hdst hsem) kk) Q) := by
  unfold sendable tokens
  iintro ⟨#He, Ho, Hi, ⟨Ht, Ht'⟩, Ha, Hw⟩ Hk
  iapply (step_row m K c s l hw hd hqs hqr hoff hoff') $$ [Ho Hi Ht Ht' Hw]
  · isplitr; · iexact He
    isplitl [Ho]; · iexact Ho
    isplitl [Hi]; · iapply (Entails.of_eq (show inPts m c (some (some s)) = sentPts m c 0 s from rfl)); iexact Hi
    isplitl [Hw]; · iexact Hw
    isplitl [Ht]; · iexact Ht
    iexact Ht'
  iintro ⟨Ho, Hc⟩
  iapply Hk
  isplitl [Ho]; · iexact Ho
  unfold awaited
  isplitl [Hc]; · iexact Hc
  iexact Ha

/-- Stages 1 to 3. -/
theorem slot_forward (k s : Fin 4) (hk : k ≠ 0) (l : List Payment) {w : ℕ} (hw : w = width s)
    {d : Dev nD} (hd : d = partner (via k s) c) {qs qr : DmaSem sig} (hqs : qs = port true k s) (hqr : qr = port false k s)
    {off : Fin 2 → ℕ} {inb inb'} (hoff : off = outOff c (feeds k) s)
    {hsc : (oBlk off w inb : Memref sig (Dev.tc d : Thread nD τ).2.kind .hbm ⟨2, ![4096, w]⟩ .f32).view.ref.isScScratch = false}
    {hsrc : (oBlk off w inb').view.WordExact} {hdst : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via k s, .dma (recvS k s)) :: l) ∗ outPts m (readShare k) c (some (feeds k, s)) ∗ sendable c k s)
      ⊢ iprop(((held c l ∗ awaited c true k s) -∗ runs c (kk ⟨⟩) Q)
          -∗ runs c (.op (.enqueueDma (oBlk off w inb') (.remote (Dev.tc d : Thread nD τ) (oBlk off w inb) (.dma qs) hsc) (.dma qr) hsrc hdst hsem) kk) Q) := by
  have hs : outPts m (readShare k) c (some (feeds k, s)) = sentPts m c k s := by unfold sentPts; rw [if_neg hk]
  rw [hs]
  unfold sendable tokens
  iintro ⟨#He, Ho, Hi, ⟨Ht, Ht'⟩, Ha, Hw⟩ Hk
  iapply (step_forward m K c k s hk l hw hd hqs hqr hoff) $$ [Ho Hi Ht Ht' Hw]
  · isplitr; · iexact He
    isplitl [Ho]; · iexact Ho
    isplitl [Hi]; · iexact Hi
    isplitl [Hw]; · iexact Hw
    isplitl [Ht]; · iexact Ht
    iexact Ht'
  iintro ⟨Ho, Hc⟩
  iapply Hk
  isplitl [Ho]; · iexact Ho
  unfold awaited
  isplitl [Hc]; · iexact Hc
  iexact Ha

/-- Wait for a copy. -/
theorem slot_wait (b : Bool) (k s : Fin 4) (l : List Payment) (hl : ∀ p ∈ l, level (.dma (port b k s)) < level p.2)
    {sp sp' : Space} {s₁ s₂ : Shape} {e e' : EltTy} {q : DmaSem sig} (hq : q = port b k s)
    {src : Memref sig .tc sp' s₂ e'} {dst : Memref sig .tc sp s₁ e} {hsrc : src.view.WordExact} {hdst : dst.view.WordExact}
    (hN : dst.view.dmaCredit = credit (width s)) {kk : PUnit → Prog (TpuEff nD τ sig (Elt F) Λ₀ .tc) α} {Q : α → sProp 𝕄} :
    iprop(env m K ∗ held c l ∗ awaited c b k s)
      ⊢ iprop(((held c l ∗ arrived m c b k s) -∗ runs c (kk ⟨⟩) Q) -∗ runs c (.op (.waitDma2 q src dst hsrc hdst) kk) Q) :=
  step_wait_dma m K c (port b k s) (some (b, k, s)) (role_port b k s) l hl hq hN

/-- A window read by two copies at once. -/
theorem out_halves (t : Option (Fin 4 × Fin 4)) :
    outPts m fullShare c t ⊣⊢ iprop(outPts m fullShare.left c t ∗ outPts m fullShare.right c t) := by
  unfold outPts; exact pointsTo_share (PosShare.mem_left_op_right fullShare)

/-- The row window has landed: pass it on to the mirror and to the neighbour. -/
theorem slot_first (s : Fin 4) (l : List Payment)
    (hl : ∀ p ∈ (via 1 s, SemLoc.dma (recvS 1 s)) :: (via 2 s, SemLoc.dma (recvS 2 s)) :: l, level (.dma (port false 0 s)) < level p.2)
    {w : ℕ} (hw : w = width s)
    {sp sp' : Space} {s₁ s₂ : Shape} {e e' : EltTy} {q : DmaSem sig} (hq : q = port false 0 s)
    {src : Memref sig .tc sp' s₂ e'} {dst : Memref sig .tc sp s₁ e} {hsrc : src.view.WordExact} {hdst : dst.view.WordExact}
    (hN : dst.view.dmaCredit = credit (width s))
    {d₁ d₂ : Dev nD} (hd₁ : d₁ = partner (via 1 s) c) (hd₂ : d₂ = partner (via 2 s) c)
    {qs₁ qr₁ qs₂ qr₂ : DmaSem sig} (hqs₁ : qs₁ = port true 1 s) (hqr₁ : qr₁ = port false 1 s) (hqs₂ : qs₂ = port true 2 s) (hqr₂ : qr₂ = port false 2 s)
    {off : Fin 2 → ℕ} {inb inb' inb₂ inb₂'} (hoff : off = outOff c 0 s)
    {hsc₁ : (oBlk off w inb : Memref sig (Dev.tc d₁ : Thread nD τ).2.kind .hbm ⟨2, ![4096, w]⟩ .f32).view.ref.isScScratch = false}
    {hsrc₁ : (oBlk off w inb').view.WordExact} {hdst₁ : (oBlk off w inb).view.WordExact}
    {hsem₁ : DmaTarget.Typed .hbm (.dma qr₁) (.remote (Dev.tc d₁ : Thread nD τ) (oBlk off w inb) (.dma qs₁) hsc₁)}
    {hsc₂ : (oBlk off w inb₂ : Memref sig (Dev.tc d₂ : Thread nD τ).2.kind .hbm ⟨2, ![4096, w]⟩ .f32).view.ref.isScScratch = false}
    {hsrc₂ : (oBlk off w inb₂').view.WordExact} {hdst₂ : (oBlk off w inb₂).view.WordExact}
    {hsem₂ : DmaTarget.Typed .hbm (.dma qr₂) (.remote (Dev.tc d₂ : Thread nD τ) (oBlk off w inb₂) (.dma qs₂) hsc₂)}
    {kk : PUnit → Prog (TpuEff nD τ sig (Elt F) Λ₀ .tc) α} {Q : α → sProp 𝕄} :
    iprop(env m K ∗ held c ((via 1 s, .dma (recvS 1 s)) :: (via 2 s, .dma (recvS 2 s)) :: l) ∗ awaited c false 0 s ∗ sendable c 1 s ∗ sendable c 2 s)
      ⊢ iprop(((held c l ∗ closed c (.dma (port false 0 s)) ∗ awaited c true 1 s ∗ awaited c true 2 s) -∗ runs c (kk ⟨⟩) Q)
          -∗ runs c (.op (.waitDma2 q src dst hsrc hdst) fun _ =>
            .op (.enqueueDma (oBlk off w inb') (.remote (Dev.tc d₁ : Thread nD τ) (oBlk off w inb) (.dma qs₁) hsc₁) (.dma qr₁) hsrc₁ hdst₁ hsem₁) fun _ =>
            .op (.enqueueDma (oBlk off w inb₂') (.remote (Dev.tc d₂ : Thread nD τ) (oBlk off w inb₂) (.dma qs₂) hsc₂) (.dma qr₂) hsrc₂ hdst₂ hsem₂) kk) Q) := by
  iintro ⟨#He, Ho, Hr, H1, H2⟩ Hk
  iapply (slot_wait m K c false 0 s _ hl hq hN) $$ [Ho Hr]
  · isplitr; · iexact He
    isplitl [Ho]; · iexact Ho
    iexact Hr
  iintro ⟨Ho, Hr⟩
  unfold arrived
  icases Hr with ⟨Hz, Hw⟩
  ihave Hw' := (show dmaPay m c (some (false, 0, s)) ⊢ _ from (out_halves m c (some (0, s))).1) $$ Hw
  icases Hw' with ⟨Hwl, Hwr⟩
  iapply (slot_forward m K c 1 s (by decide) _ hw hd₁ hqs₁ hqr₁ hoff) $$ [Ho Hwl H1]
  · isplitr; · iexact He
    isplitl [Ho]; · iexact Ho
    isplitl [Hwl]; · iexact Hwl
    iexact H1
  iintro ⟨Ho, Ha1⟩
  iapply (slot_forward m K c 2 s (by decide) l hw hd₂ hqs₂ hqr₂ hoff) $$ [Ho Hwr H2]
  · isplitr; · iexact He
    isplitl [Ho]; · iexact Ho
    isplitl [Hwr]; · iexact Hwr
    iexact H2
  iintro ⟨Ho, Ha2⟩
  iapply Hk
  isplitl [Ho]; · iexact Ho
  isplitl [Hz]; · iexact Hz
  isplitl [Ha1]; · iexact Ha1
  iexact Ha2

/-- The mirror's window has landed: pass it on to the neighbour. -/
theorem slot_second (s : Fin 4) (l : List Payment)
    (hl : ∀ p ∈ (via 3 s, SemLoc.dma (recvS 3 s)) :: l, level (.dma (port false 1 s)) < level p.2)
    {w : ℕ} (hw : w = width s)
    {sp sp' : Space} {s₁ s₂ : Shape} {e e' : EltTy} {q : DmaSem sig} (hq : q = port false 1 s)
    {src : Memref sig .tc sp' s₂ e'} {dst : Memref sig .tc sp s₁ e} {hsrc : src.view.WordExact} {hdst : dst.view.WordExact}
    (hN : dst.view.dmaCredit = credit (width s))
    {d : Dev nD} (hd : d = partner (via 3 s) c) {qs qr : DmaSem sig} (hqs : qs = port true 3 s) (hqr : qr = port false 3 s)
    {off : Fin 2 → ℕ} {inb inb'} (hoff : off = outOff c 1 s)
    {hsc : (oBlk off w inb : Memref sig (Dev.tc d : Thread nD τ).2.kind .hbm ⟨2, ![4096, w]⟩ .f32).view.ref.isScScratch = false}
    {hsrc' : (oBlk off w inb').view.WordExact} {hdst' : (oBlk off w inb).view.WordExact}
    {hsem : DmaTarget.Typed .hbm (.dma qr) (.remote (Dev.tc d : Thread nD τ) (oBlk off w inb) (.dma qs) hsc)}
    {kk : PUnit → Prog (TpuEff nD τ sig (Elt F) Λ₀ .tc) α} {Q : α → sProp 𝕄} :
    iprop(env m K ∗ held c ((via 3 s, .dma (recvS 3 s)) :: l) ∗ awaited c false 1 s ∗ sendable c 3 s)
      ⊢ iprop(((held c l ∗ closed c (.dma (port false 1 s)) ∗ awaited c true 3 s) -∗ runs c (kk ⟨⟩) Q)
          -∗ runs c (.op (.waitDma2 q src dst hsrc hdst) fun _ =>
            .op (.enqueueDma (oBlk off w inb') (.remote (Dev.tc d : Thread nD τ) (oBlk off w inb) (.dma qs) hsc) (.dma qr) hsrc' hdst' hsem) kk) Q) := by
  iintro ⟨#He, Ho, Hr, H3⟩ Hk
  iapply (slot_wait m K c false 1 s _ hl hq hN) $$ [Ho Hr]
  · isplitr; · iexact He
    isplitl [Ho]; · iexact Ho
    iexact Hr
  iintro ⟨Ho, Hr⟩
  unfold arrived
  icases Hr with ⟨Hz, Hw⟩
  iapply (slot_forward m K c 3 s (by decide) l hw hd hqs hqr hoff) $$ [Ho Hw H3]
  · isplitr; · iexact He
    isplitl [Ho]; · iexact Ho
    isplitl [Hw]; · iapply (Entails.of_eq (show dmaPay m c (some (false, 1, s)) = outPts m (readShare 3) c (some (feeds 3, s)) from rfl)); iexact Hw
    iexact H3
  iintro ⟨Ho, Ha⟩
  iapply Hk
  isplitl [Ho]; · iexact Ho
  isplitl [Hz]; · iexact Hz
  iexact Ha

/-- Four waits in a row, for the four slots of one stage. -/
theorem four_waits (b : Bool) (k : Fin 4) (l : List Payment) (hl : ∀ s, ∀ p ∈ l, level (.dma (port b k s)) < level p.2)
    {sp₀ sp₀' sp₁ sp₁' sp₂ sp₂' sp₃ sp₃' : Space} {s₀ s₀' s₁ s₁' s₂ s₂' s₃ s₃' : Shape} {e₀ e₀' e₁ e₁' e₂ e₂' e₃ e₃' : EltTy}
    {q₀ q₁ q₂ q₃ : DmaSem sig} (hq₀ : q₀ = port b k 0) (hq₁ : q₁ = port b k 1) (hq₂ : q₂ = port b k 2) (hq₃ : q₃ = port b k 3)
    {src₀ : Memref sig .tc sp₀' s₀' e₀'} {dst₀ : Memref sig .tc sp₀ s₀ e₀} {hsrc₀ : src₀.view.WordExact} {hdst₀ : dst₀.view.WordExact}
    {src₁ : Memref sig .tc sp₁' s₁' e₁'} {dst₁ : Memref sig .tc sp₁ s₁ e₁} {hsrc₁ : src₁.view.WordExact} {hdst₁ : dst₁.view.WordExact}
    {src₂ : Memref sig .tc sp₂' s₂' e₂'} {dst₂ : Memref sig .tc sp₂ s₂ e₂} {hsrc₂ : src₂.view.WordExact} {hdst₂ : dst₂.view.WordExact}
    {src₃ : Memref sig .tc sp₃' s₃' e₃'} {dst₃ : Memref sig .tc sp₃ s₃ e₃} {hsrc₃ : src₃.view.WordExact} {hdst₃ : dst₃.view.WordExact}
    (hN₀ : dst₀.view.dmaCredit = credit (width 0)) (hN₁ : dst₁.view.dmaCredit = credit (width 1))
    (hN₂ : dst₂.view.dmaCredit = credit (width 2)) (hN₃ : dst₃.view.dmaCredit = credit (width 3))
    {kk : PUnit → Prog (TpuEff nD τ sig (Elt F) Λ₀ .tc) α} {Q : α → sProp 𝕄} :
    iprop(env m K ∗ held c l ∗ (bigSep Finset.univ fun s => awaited c b k s))
      ⊢ iprop(((held c l ∗ bigSep Finset.univ fun s => arrived m c b k s) -∗ runs c (kk ⟨⟩) Q)
          -∗ runs c (.op (.waitDma2 q₀ src₀ dst₀ hsrc₀ hdst₀) fun _ => .op (.waitDma2 q₁ src₁ dst₁ hsrc₁ hdst₁) fun _ =>
            .op (.waitDma2 q₂ src₂ dst₂ hsrc₂ hdst₂) fun _ => .op (.waitDma2 q₃ src₃ dst₃ hsrc₃ hdst₃) kk) Q) := by
  rw [bigSep_four, bigSep_four]
  iintro ⟨#He, Ho, H0, H1, H2, H3⟩ Hk
  iapply (slot_wait m K c b k 0 l (hl 0) hq₀ hN₀) $$ [Ho H0]
  · isplitr; · iexact He
    isplitl [Ho] <;> iassumption
  iintro ⟨Ho, H0⟩
  iapply (slot_wait m K c b k 1 l (hl 1) hq₁ hN₁) $$ [Ho H1]
  · isplitr; · iexact He
    isplitl [Ho] <;> iassumption
  iintro ⟨Ho, H1⟩
  iapply (slot_wait m K c b k 2 l (hl 2) hq₂ hN₂) $$ [Ho H2]
  · isplitr; · iexact He
    isplitl [Ho] <;> iassumption
  iintro ⟨Ho, H2⟩
  iapply (slot_wait m K c b k 3 l (hl 3) hq₃ hN₃) $$ [Ho H3]
  · isplitr; · iexact He
    isplitl [Ho] <;> iassumption
  iintro ⟨Ho, H3⟩
  iapply Hk
  isplitl [Ho]; · iexact Ho
  isplitl [H0]; · iexact H0
  isplitl [H1]; · iexact H1
  isplitl [H2] <;> iassumption

/-- The payments of one signal to each partner. -/
def round (q : Sem sig) : List Payment := [(0, .reg q), (1, .reg q), (2, .reg q), (3, .reg q), (4, .reg q)]

/-- A signal to partner `j`, with what it hands over. -/
def token (q : Sem sig) (j : Fin 5) : sProp 𝕄 := dutyTok ER (cell (partner j c) (.reg q)) 0 (back j)

/-- Signal every partner once. -/
theorem five_signals (q : Sem sig) (l : List Payment) {d₀ d₁ d₂ d₃ d₄ : Dev nD} (h₀ : d₀ = partner 0 c) (h₁ : d₁ = partner 1 c)
    (h₂ : d₂ = partner 2 c) (h₃ : d₃ = partner 3 c) (h₄ : d₄ = partner 4 c)
    {kk : PUnit → Prog (TpuEff nD τ sig (Elt F) Λ₀ .tc) α} {Q : α → sProp 𝕄} :
    iprop(env m K ∗ held c (round q ++ l) ∗ (bigSep Finset.univ fun j => token c q j)
        ∗ (bigSep Finset.univ fun j => regPay (partner j c) q (back j)))
      ⊢ iprop((held c l -∗ runs c (kk ⟨⟩) Q)
          -∗ runs c (.op (.semSignal (d₀, .tc) q (1#32 : BitVec 32).toInt) fun _ => .op (.semSignal (d₁, .tc) q (1#32 : BitVec 32).toInt) fun _ =>
            .op (.semSignal (d₂, .tc) q (1#32 : BitVec 32).toInt) fun _ => .op (.semSignal (d₃, .tc) q (1#32 : BitVec 32).toInt) fun _ =>
            .op (.semSignal (d₄, .tc) q (1#32 : BitVec 32).toInt) kk) Q) := by
  rw [bigSep_five, bigSep_five]
  unfold token
  show iprop(env m K ∗ held c ((0, .reg q) :: (1, .reg q) :: (2, .reg q) :: (3, .reg q) :: (4, .reg q) :: l) ∗ _ ∗ _) ⊢ _
  iintro ⟨#He, Ho, ⟨T0, T1, T2, T3, T4⟩, P0, P1, P2, P3, P4⟩ Hk
  iapply (step_signal m K c q 0 _ h₀) $$ [Ho T0 P0]
  · isplitr; · iexact He
    isplitl [Ho]; · iexact Ho
    isplitl [T0] <;> iassumption
  iintro Ho
  iapply (step_signal m K c q 1 _ h₁) $$ [Ho T1 P1]
  · isplitr; · iexact He
    isplitl [Ho]; · iexact Ho
    isplitl [T1] <;> iassumption
  iintro Ho
  iapply (step_signal m K c q 2 _ h₂) $$ [Ho T2 P2]
  · isplitr; · iexact He
    isplitl [Ho]; · iexact Ho
    isplitl [T2] <;> iassumption
  iintro Ho
  iapply (step_signal m K c q 3 _ h₃) $$ [Ho T3 P3]
  · isplitr; · iexact He
    isplitl [Ho]; · iexact Ho
    isplitl [T3] <;> iassumption
  iintro Ho
  iapply (step_signal m K c q 4 _ h₄) $$ [Ho T4 P4]
  · isplitr; · iexact He
    isplitl [Ho]; · iexact Ho
    isplitl [T4] <;> iassumption
  iintro Ho
  iapply Hk
  iexact Ho

/-- What a slot's waits leave: its columns of the operand, its four windows at the final contents, its semaphores. -/
theorem slot_settle (s : Fin 4) :
    iprop(closed c (.dma (port false 0 s)) ∗ closed c (.dma (port false 1 s)) ∗ arrived m c false 2 s ∗ arrived m c false 3 s
        ∗ arrived m c true 0 s ∗ arrived m c true 1 s ∗ arrived m c true 2 s ∗ arrived m c true 3 s)
      ⊢ iprop(inPts m c (some (some s)) ∗ bigSep Finset.univ fun k =>
          iprop(outPts m fullShare c (some (k, s)) ∗ closed c (.dma (sendS k s)) ∗ closed c (.dma (recvS k s)))) := by
  rw [bigSep_four]
  unfold arrived
  show iprop(closed c (.dma (recvS 0 s)) ∗ closed c (.dma (recvS 1 s)) ∗ (closed c (.dma (recvS 2 s)) ∗ outPts m fullShare c (some (2, s)))
        ∗ (closed c (.dma (recvS 3 s)) ∗ outPts m fullShare c (some (3, s)))
        ∗ (closed c (.dma (sendS 0 s)) ∗ inPts m c (some (some s))) ∗ (closed c (.dma (sendS 1 s)) ∗ outPts m fullShare.left c (some (0, s)))
        ∗ (closed c (.dma (sendS 2 s)) ∗ outPts m fullShare.right c (some (0, s))) ∗ (closed c (.dma (sendS 3 s)) ∗ outPts m fullShare c (some (1, s)))) ⊢ _
  iintro ⟨R0, R1, ⟨R2, O2⟩, ⟨R3, O3⟩, ⟨S0, I⟩, ⟨S1, Ol⟩, ⟨S2, Or⟩, S3, O1⟩
  isplitl [I]; · iexact I
  isplitl [R0 S0 Ol Or]
  · isplitl [Ol Or]
    · iapply (out_halves m c (some (0, s))).2
      isplitl [Ol] <;> iassumption
    isplitl [S0] <;> iassumption
  isplitl [R1 S1 O1]
  · isplitl [O1]; · iexact O1
    isplitl [S1] <;> iassumption
  isplitl [R2 S2 O2]
  · isplitl [O2]; · iexact O2
    isplitl [S2] <;> iassumption
  isplitl [O3]; · iexact O3
  isplitl [S3] <;> iassumption

end Cert.KernelIdeal.Relay

end
-- ==== Proof.Regroup.lean ====
/-
Whole buffers as their windows, and the windows by the partner that writes them.
-/
module

public import proofs.«01_k».proof.Proof.Slots

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Parts ℕ

variable (m : (ℓ : Loc nD τ sig) → Buf (Elt F) ℓ)

theorem bigSep_option {T : Type} [Fintype T] [DecidableEq T] (Φ : Option T → sProp 𝕄) :
    bigSep Finset.univ Φ = iprop(Φ none ∗ bigSep Finset.univ fun t => Φ (some t)) := by
  rw [BI.bigSep_univ_equiv (Equiv.optionEquivSumPUnit.{0} T).symm Φ, BI.bigSep_univ_sum,
    show (Finset.univ : Finset PUnit.{1}) = {PUnit.unit} from rfl, bigSep_singleton]
  exact Entails.antisymm (sep_comm (PROP := sProp 𝕄)).1 (sep_comm (PROP := sProp 𝕄)).1

/-- A buffer is its elements, label by label. -/
theorem pointsTo_labels {T : Type} [Fintype T] [DecidableEq T] (ℓ : Loc nD τ sig) (lab : Idx ℓ → T) (q : PosShare TreeShare)
    (f : Buf (Elt F) ℓ) :
    (ℓ ↦{q} f : sProp 𝕄) = bigSep Finset.univ fun t => ℓ ↦[Finset.univ.filter fun i => lab i = t]{q} f := by
  rw [← pointsTo_biUnion Finset.univ _ fun t _ t' _ hne => Finset.disjoint_filter.mpr fun i _ h h' => hne (h.symm.trans h')]
  congr 1
  ext i
  simp

/-- All sixteen windows of stages and slots. -/
abbrev allSlots (Φ : Fin 4 → Fin 4 → sProp 𝕄) : sProp 𝕄 := bigSep Finset.univ fun k => bigSep Finset.univ fun s => Φ k s

theorem allSlots_pairs (Φ : Fin 4 → Fin 4 → sProp 𝕄) : allSlots Φ = bigSep Finset.univ fun t : Fin 4 × Fin 4 => Φ t.1 t.2 :=
  (BI.bigSep_univ_prod fun t : Fin 4 × Fin 4 => Φ t.1 t.2).symm

theorem allSlots_sep (Φ Ψ : Fin 4 → Fin 4 → sProp 𝕄) : allSlots (fun k s => iprop(Φ k s ∗ Ψ k s)) = iprop(allSlots Φ ∗ allSlots Ψ) := by
  rw [allSlots_pairs, bigSep_sep', ← allSlots_pairs, ← allSlots_pairs]

variable (c : Dev nD)

theorem in_windows : (((c : Thread nD τ).loc main_arg0) ↦{fullShare} m ((c : Thread nD τ).loc main_arg0) : sProp 𝕄)
    = iprop(inPts m c none ∗ inPts m c (some none) ∗ bigSep Finset.univ fun s => inPts m c (some (some s))) := by
  rw [pointsTo_labels _ (inLabel c), bigSep_option, bigSep_option]; rfl

theorem out_windows : (((c : Thread nD τ).loc main_v1) ↦{fullShare} final m c : sProp 𝕄)
    = iprop(outPts m fullShare c none ∗ allSlots fun k s => outPts m fullShare c (some (k, s))) := by
  rw [pointsTo_labels _ (outLabel c), bigSep_option, allSlots_pairs]; rfl

theorem out_any (f : Buf (Elt F) ((c : Thread nD τ).loc main_v1)) : (((c : Thread nD τ).loc main_v1) ↦{fullShare} f : sProp 𝕄)
    ⊢ iprop(outAny c none ∗ allSlots fun k s => outAny c (some (k, s))) := by
  have h : ∀ t, (((c : Thread nD τ).loc main_v1) ↦[Finset.univ.filter fun i => outLabel c i = t]{fullShare} f : sProp 𝕄) ⊢ outAny c t := fun t => by
    unfold outAny; iintro H; iexists f; iexact H
  rw [pointsTo_labels _ (outLabel c), bigSep_option, allSlots_pairs]
  exact BI.sep_mono (h none) (bigSep_mono fun t _ => h (some t))

/-- The windows, by the partner their copies come from. -/
theorem by_partner (Φ : Fin 4 × Fin 4 → sProp 𝕄) : bigSep Finset.univ Φ = bigSep Finset.univ fun j => bigSep (writtenBy j) Φ := by
  rw [bigSep_fiberwise Finset.univ (fun t : Fin 4 × Fin 4 => via t.1 t.2) Φ,
    show (Finset.univ.image fun t : Fin 4 × Fin 4 => via t.1 t.2) = Finset.univ by decide]
  rfl

/-- What a device hands over at the barrier: all its windows, each to the partner that writes it. -/
theorem barrier_out : allSlots (fun k s => outAny (F := F) c (some (k, s)))
    = bigSep Finset.univ fun j => regPay (partner j c) barS (back j) := by
  rw [allSlots_pairs, by_partner, BI.bigSep_univ_equiv backs]
  refine bigSep_congr fun j _ => ?_
  unfold regPay
  rw [if_pos rfl, partner_back]
  rfl

/-- What it is handed: the windows it writes. -/
theorem barrier_in : (bigSep Finset.univ fun j => regPay (F := F) c barS j)
    = allSlots fun k s => outAny (partner (via k s) c) (some (k, s)) := by
  rw [allSlots_pairs, by_partner]
  refine bigSep_congr fun j _ => ?_
  unfold regPay
  rw [if_pos rfl]
  exact bigSep_congr fun t ht => by rw [(Finset.mem_filter.mp ht).2]

/-- At the end nothing is handed over. -/
theorem exit_none (f : Fin 5 → Dev nD) (g : Fin 5 → Fin 5) : (bigSep Finset.univ fun j => regPay (F := F) (f j) exitS (g j)) = iprop(emp) := by
  have h : ∀ j, regPay (F := F) (f j) exitS (g j) = BI.emp := fun j => by unfold regPay; rw [if_neg (by decide)]; rfl
  rw [bigSep_congr fun j _ => h j, BI.bigSep_emp_const]; rfl

end Cert.KernelIdeal.Relay

end
-- ==== Proof.Body.lean ====
/-
The kernel's body on a symbolic device: from the device's buffers and its share of the protocol to its buffers with the
final contents and all its semaphores at zero.
-/
module

public import proofs.«01_k».proof.Proof.Regroup
public import proofs.«01_k».proof.Proof.Gen.KernelIdeal.Skeleton

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Parts ℕ

variable (m : (ℓ : Loc nD τ sig) → Buf (Elt F) ℓ)

/-- A round of five signals to wait for. -/
def gathered (c : Dev nD) (q : Sem sig) : sProp 𝕄 :=
  iprop(cred (tallyAt (cell c (.reg q)) () 5) ∗ atPos ER (cell c (.reg q)) 0 ∅ 0)

/-- A device's share of the protocol. -/
def share (c : Dev nD) : sProp 𝕄 :=
  iprop((bigSep Finset.univ fun j => token c barS j) ∗ gathered c barS
    ∗ (bigSep Finset.univ fun j => token c exitS j) ∗ gathered c exitS
    ∗ (dutyTok ER (cell c (.dma localS)) 0 0 ∗ standing c localS)
    ∗ allSlots fun k s => iprop((tokens c k s ∗ standing c (port true k s)) ∗ awaited c false k s))

/-- All a device's semaphores, no longer in use. -/
def allClosed (c : Dev nD) : sProp 𝕄 :=
  iprop(closed c (.reg barS) ∗ closed c (.reg exitS) ∗ closed c (.dma localS)
    ∗ allSlots fun k s => iprop(closed c (.dma (sendS k s)) ∗ closed c (.dma (recvS k s))))

/-- A device's buffers: the operand as at the start, and the result with contents `f`. -/
def buffers (c : Dev nD) (f : Buf (Elt F) ((c : Thread nD τ).loc main_v1)) : sProp 𝕄 :=
  iprop((((c : Thread nD τ).loc main_arg0) ↦{fullShare} m ((c : Thread nD τ).loc main_arg0)) ∗ (((c : Thread nD τ).loc main_v1) ↦{fullShare} f))

/-- What the copies of stage `k` in all slots leave, put together. -/
theorem settle (c : Dev nD) :
    iprop((bigSep Finset.univ fun s => closed c (.dma (port false 0 s))) ∗ (bigSep Finset.univ fun s => closed c (.dma (port false 1 s)))
        ∗ (bigSep Finset.univ fun s => arrived m c false 2 s) ∗ (bigSep Finset.univ fun s => arrived m c false 3 s)
        ∗ (bigSep Finset.univ fun s => arrived m c true 0 s) ∗ (bigSep Finset.univ fun s => arrived m c true 1 s)
        ∗ (bigSep Finset.univ fun s => arrived m c true 2 s) ∗ (bigSep Finset.univ fun s => arrived m c true 3 s))
      ⊢ iprop((bigSep Finset.univ fun s => inPts m c (some (some s))) ∗ (allSlots fun k s => outPts m fullShare c (some (k, s)))
          ∗ allSlots fun k s => iprop(closed c (.dma (sendS k s)) ∗ closed c (.dma (recvS k s)))) := by
  rw [← allSlots_sep, allSlots, Pipeline.bigSep_univ_comm, ← bigSep_sep', ← bigSep_sep', ← bigSep_sep', ← bigSep_sep', ← bigSep_sep',
    ← bigSep_sep', ← bigSep_sep', ← bigSep_sep']
  exact bigSep_mono fun s _ => slot_settle m c s

/-- Sixteen windows, one by one. -/
theorem allSlots_four (Φ : Fin 4 → Fin 4 → sProp 𝕄) :
    allSlots Φ = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3) ∗ (Φ 3 0 ∗ Φ 3 1 ∗ Φ 3 2 ∗ Φ 3 3)) := by
  rw [allSlots, bigSep_four]; simp only [bigSep_four]

/-- What a device is handed at the barrier makes its copies ready to go. -/
theorem make_ready (c : Dev nD) :
    iprop((allSlots fun k s => iprop((tokens c k s ∗ standing c (port true k s)) ∗ awaited c false k s))
        ∗ allSlots fun k s => outAny (F := F) (partner (via k s) c) (some (k, s)))
      ⊢ iprop((allSlots fun k s => sendable c k s) ∗ allSlots fun k s => awaited c false k s) := by
  rw [← allSlots_sep, ← allSlots_sep]
  refine bigSep_mono fun k _ => bigSep_mono fun s _ => ?_
  unfold sendable
  show iprop(((tokens c k s ∗ standing c (port true k s)) ∗ awaited c false k s) ∗ outAny (partner (via k s) c) (some (k, s)))
    ⊢ iprop((tokens c k s ∗ standing c (port true k s) ∗ outAny (partner (via k s) c) (some (k, s))) ∗ awaited c false k s)
  iintro ⟨⟨⟨Ht, Ha⟩, Hr⟩, Hw⟩
  isplitr [Hr]
  · isplitl [Ht]; · iexact Ht
    isplitl [Ha] <;> iassumption
  iexact Hr

theorem low_levels (b : Bool) (k s : Fin 4) : ∀ p ∈ exits, level (.dma (port b k s)) < level p.2 := by
  revert b k s; decide

variable (K : Dev nD × SemLoc sig → ℕ) (c : Dev nD)

set_option maxRecDepth 65536 in
set_option maxHeartbeats 4000000 in
theorem body_runs (f : Buf (Elt F) ((c : Thread nD τ).loc main_v1)) {Q : PUnit → sProp 𝕄} :
    iprop(env m K ∗ held c debts ∗ buffers m c f ∗ share c)
      ⊢ iprop(((held c [] ∗ buffers m c (final m c) ∗ allClosed c) -∗ Q ⟨⟩)
          -∗ runs c (cc0_body (F := F) xM (Memref.isWhole_whole _) oM (Memref.isWhole_whole _)
              cc0_scratch0 cc0_scratch1 cc0_scratch2 cc0_scratch3 cc0_scratch4 cc0_scratch5 cc0_scratch6 cc0_scoped0) Q) := by
  unfold cc0_body
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    semSignalWord, semWaitWord, Prog.lift, Prog.bind_op, Prog.bind_ret, Prog.pure_eq_ret, wp_deviceId]
  obtain ⟨⟨b0, b1, b2⟩, ⟨y0, y1, y2, y3⟩, e0, e1, e2⟩ := dev_row c
  obtain ⟨b3, x0, x1, x2, x3, e3⟩ := dev_mirror c
  obtain ⟨⟨b4, z0, z1, z2, z3⟩, w0, w1, w2, w3, e4⟩ := dev_neighbour c
  obtain ⟨l1, l2⟩ := off_local c
  obtain ⟨i0, i1, i2, i3⟩ := off_source c
  obtain ⟨r0, r1, r2, r3⟩ := off_row c
  obtain ⟨p0, p1, p2, p3⟩ := off_first c
  obtain ⟨s0, s1, s2, s3⟩ := off_second c
  unfold buffers share
  iintro ⟨#He, Ho, ⟨Hin, Hout⟩, Tb, Gb, Te, Ge, ⟨Tl, Al⟩, Hall⟩ Hk
  -- the result's windows, to be handed to the partners that write them
  ihave Hout := (out_any c f) $$ Hout
  icases Hout with ⟨Hol, Hos⟩
  ihave Hos := (Entails.of_eq (barrier_out c)) $$ Hos
  -- the barrier
  iapply (five_signals m K c barS (sends 0 ++ (middle ++ (sends 3 ++ exits))) b0 b1 b2 b3 b4) $$ [Ho Tb Hos]
  · isplitr; · iexact He
    isplitl [Ho]; · iexact Ho
    isplitl [Tb]; · iexact Tb
    iexact Hos
  iintro Ho
  unfold gathered
  iapply (step_wait_reg m K c barS (sends 0 ++ (middle ++ (sends 3 ++ exits))) (by decide)) $$ [Ho Gb]
  · isplitr; · iexact He
    isplitl [Ho]; · iexact Ho
    iexact Gb
  iintro ⟨Ho, Zb, Hw⟩
  ihave Hw := (Entails.of_eq (barrier_in c)) $$ Hw
  ihave Hall := (make_ready c) $$ [Hall Hw]
  · isplitl [Hall] <;> iassumption
  icases Hall with ⟨Hs, Hr⟩
  ihave Hs := (Entails.of_eq (allSlots_four _)) $$ Hs
  ihave Hr := (Entails.of_eq (allSlots_four _)) $$ Hr
  icases Hs with ⟨⟨S00, S01, S02, S03⟩, ⟨S10, S11, S12, S13⟩, ⟨S20, S21, S22, S23⟩, S30, S31, S32, S33⟩
  icases Hr with ⟨⟨R00, R01, R02, R03⟩, ⟨R10, R11, R12, R13⟩, ⟨R20, R21, R22, R23⟩, R30, R31, R32, R33⟩
  ihave Hin := (Entails.of_eq (in_windows m c)) $$ Hin
  icases Hin with ⟨Hiu, Hil, His⟩
  ihave His := (Entails.of_eq (bigSep_four _)) $$ His
  icases His with ⟨I0, I1, I2, I3⟩
  -- the local copy
  iapply (step_local m K c l1 l2) $$ [Hil Hol Tl]
  · isplitr; · iexact He
    isplitl [Hil]; · iexact Hil
    isplitl [Hol] <;> iassumption
  iintro Cl
  -- along the row, from the operand
  iapply (slot_row m K c 0 (debts.drop 6) rfl y0 rfl rfl r0 i0) $$ [Ho I0 S00]
  · isplitr; · iexact He
    isplitl [Ho]; · iexact Ho
    isplitl [I0] <;> iassumption
  iintro ⟨Ho, W00⟩
  iapply (slot_row m K c 1 (debts.drop 7) rfl y1 rfl rfl r1 i1) $$ [Ho I1 S01]
  · isplitr; · iexact He
    isplitl [Ho]; · iexact Ho
    isplitl [I1] <;> iassumption
  iintro ⟨Ho, W01⟩
  iapply (slot_row m K c 2 (debts.drop 8) rfl y2 rfl rfl r2 i2) $$ [Ho I2 S02]
  · isplitr; · iexact He
    isplitl [Ho]; · iexact Ho
    isplitl [I2] <;> iassumption
  iintro ⟨Ho, W02⟩
  iapply (slot_row m K c 3 (debts.drop 9) rfl y3 rfl rfl r3 i3) $$ [Ho I3 S03]
  · isplitr; · iexact He
    isplitl [Ho]; · iexact Ho
    isplitl [I3] <;> iassumption
  iintro ⟨Ho, W03⟩
  -- a row window passed on twice
  iapply (slot_first m K c 0 (debts.drop 11) (by decide) rfl rfl rfl x0 z0 rfl rfl rfl rfl p0) $$ [Ho R00 S10 S20]
  · isplitr; · iexact He
    isplitl [Ho]; · iexact Ho
    isplitl [R00]; · iexact R00
    isplitl [S10] <;> iassumption
  iintro ⟨Ho, Z00, W10, W20⟩
  iapply (slot_first m K c 1 (debts.drop 13) (by decide) rfl rfl rfl x1 z1 rfl rfl rfl rfl p1) $$ [Ho R01 S11 S21]
  · isplitr; · iexact He
    isplitl [Ho]; · iexact Ho
    isplitl [R01]; · iexact R01
    isplitl [S11] <;> iassumption
  iintro ⟨Ho, Z01, W11, W21⟩
  iapply (slot_first m K c 2 (debts.drop 15) (by decide) rfl rfl rfl x2 z2 rfl rfl rfl rfl p2) $$ [Ho R02 S12 S22]
  · isplitr; · iexact He
    isplitl [Ho]; · iexact Ho
    isplitl [R02]; · iexact R02
    isplitl [S12] <;> iassumption
  iintro ⟨Ho, Z02, W12, W22⟩
  iapply (slot_first m K c 3 (debts.drop 17) (by decide) rfl rfl rfl x3 z3 rfl rfl rfl rfl p3) $$ [Ho R03 S13 S23]
  · isplitr; · iexact He
    isplitl [Ho]; · iexact Ho
    isplitl [R03]; · iexact R03
    isplitl [S13] <;> iassumption
  iintro ⟨Ho, Z03, W13, W23⟩
  -- the mirror's window passed on
  iapply (slot_second m K c 0 (debts.drop 18) (by decide) rfl rfl rfl w0 rfl rfl s0) $$ [Ho R10 S30]
  · isplitr; · iexact He
    isplitl [Ho]; · iexact Ho
    isplitl [R10] <;> iassumption
  iintro ⟨Ho, Z10, W30⟩
  iapply (slot_second m K c 1 (debts.drop 19) (by decide) rfl rfl rfl w1 rfl rfl s1) $$ [Ho R11 S31]
  · isplitr; · iexact He
    isplitl [Ho]; · iexact Ho
    isplitl [R11] <;> iassumption
  iintro ⟨Ho, Z11, W31⟩
  iapply (slot_second m K c 2 (debts.drop 20) (by decide) rfl rfl rfl w2 rfl rfl s2) $$ [Ho R12 S32]
  · isplitr; · iexact He
    isplitl [Ho]; · iexact Ho
    isplitl [R12] <;> iassumption
  iintro ⟨Ho, Z12, W32⟩
  iapply (slot_second m K c 3 (debts.drop 21) (by decide) rfl rfl rfl w3 rfl rfl s3) $$ [Ho R13 S33]
  · isplitr; · iexact He
    isplitl [Ho]; · iexact Ho
    isplitl [R13] <;> iassumption
  iintro ⟨Ho, Z13, W33⟩
  -- the last waits
  iapply (four_waits m K c false 2 exits (fun s => low_levels false 2 s) rfl rfl rfl rfl rfl rfl rfl rfl) $$ [Ho R20 R21 R22 R23]
  · isplitr; · iexact He
    isplitl [Ho]; · iexact Ho
    iapply (Entails.of_eq (bigSep_four _).symm)
    isplitl [R20]; · iexact R20
    isplitl [R21]; · iexact R21
    isplitl [R22] <;> iassumption
  iintro ⟨Ho, R2⟩
  iapply (four_waits m K c false 3 exits (fun s => low_levels false 3 s) rfl rfl rfl rfl rfl rfl rfl rfl) $$ [Ho R30 R31 R32 R33]
  · isplitr; · iexact He
    isplitl [Ho]; · iexact Ho
    iapply (Entails.of_eq (bigSep_four _).symm)
    isplitl [R30]; · iexact R30
    isplitl [R31]; · iexact R31
    isplitl [R32] <;> iassumption
  iintro ⟨Ho, R3⟩
  iapply (four_waits m K c true 0 exits (fun s => low_levels true 0 s) rfl rfl rfl rfl rfl rfl rfl rfl) $$ [Ho W00 W01 W02 W03]
  · isplitr; · iexact He
    isplitl [Ho]; · iexact Ho
    iapply (Entails.of_eq (bigSep_four _).symm)
    isplitl [W00]; · iexact W00
    isplitl [W01]; · iexact W01
    isplitl [W02] <;> iassumption
  iintro ⟨Ho, W0⟩
  iapply (four_waits m K c true 1 exits (fun s => low_levels true 1 s) rfl rfl rfl rfl rfl rfl rfl rfl) $$ [Ho W10 W11 W12 W13]
  · isplitr; · iexact He
    isplitl [Ho]; · iexact Ho
    iapply (Entails.of_eq (bigSep_four _).symm)
    isplitl [W10]; · iexact W10
    isplitl [W11]; · iexact W11
    isplitl [W12] <;> iassumption
  iintro ⟨Ho, W1⟩
  iapply (four_waits m K c true 2 exits (fun s => low_levels true 2 s) rfl rfl rfl rfl rfl rfl rfl rfl) $$ [Ho W20 W21 W22 W23]
  · isplitr; · iexact He
    isplitl [Ho]; · iexact Ho
    iapply (Entails.of_eq (bigSep_four _).symm)
    isplitl [W20]; · iexact W20
    isplitl [W21]; · iexact W21
    isplitl [W22] <;> iassumption
  iintro ⟨Ho, W2⟩
  iapply (four_waits m K c true 3 exits (fun s => low_levels true 3 s) rfl rfl rfl rfl rfl rfl rfl rfl) $$ [Ho W30 W31 W32 W33]
  · isplitr; · iexact He
    isplitl [Ho]; · iexact Ho
    iapply (Entails.of_eq (bigSep_four _).symm)
    isplitl [W30]; · iexact W30
    isplitl [W31]; · iexact W31
    isplitl [W32] <;> iassumption
  iintro ⟨Ho, W3⟩
  unfold standing
  iapply (step_wait_dma m K c localS none role_local exits (by decide) rfl rfl) $$ [Ho Cl Al]
  · isplitr; · iexact He
    isplitl [Ho]; · iexact Ho
    isplitl [Cl]; · iexact Cl
    iexact Al
  iintro ⟨Ho, Zl, Hl⟩
  -- the exit
  iapply (five_signals m K c exitS [] e0 e1 e2 e3 e4) $$ [Ho Te]
  · isplitr; · iexact He
    isplitl [Ho]; · iexact Ho
    isplitl [Te]; · iexact Te
    iapply (Entails.of_eq (exit_none _ _).symm); iempintro
  iintro Ho
  iapply (step_wait_reg m K c exitS [] (by decide)) $$ [Ho Ge]
  · isplitr; · iexact He
    isplitl [Ho]; · iexact Ho
    iexact Ge
  iintro ⟨Ho, Zx, -⟩
  unfold runs; rw [wp_ret]; imodintro
  iapply Hk
  isplitl [Ho]; · iexact Ho
  ihave H := (settle m c) $$ [Z00 Z01 Z02 Z03 Z10 Z11 Z12 Z13 R2 R3 W0 W1 W2 W3]
  · isplitl [Z00 Z01 Z02 Z03]
    · iapply (Entails.of_eq (bigSep_four _).symm)
      isplitl [Z00]; · iexact Z00
      isplitl [Z01]; · iexact Z01
      isplitl [Z02] <;> iassumption
    isplitl [Z10 Z11 Z12 Z13]
    · iapply (Entails.of_eq (bigSep_four _).symm)
      isplitl [Z10]; · iexact Z10
      isplitl [Z11]; · iexact Z11
      isplitl [Z12] <;> iassumption
    isplitl [R2]; · iexact R2
    isplitl [R3]; · iexact R3
    isplitl [W0]; · iexact W0
    isplitl [W1]; · iexact W1
    isplitl [W2] <;> iassumption
  icases H with ⟨Hi, Hf, Hz⟩
  ihave Hl := (show dmaPay m c none ⊢ iprop(outPts m fullShare c none ∗ inPts m c (some none)) from .refl) $$ Hl
  icases Hl with ⟨Hfl, Hil⟩
  isplitr [Zb Zx Zl Hz]
  · isplitl [Hiu Hil Hi]
    · iapply (Entails.of_eq (in_windows m c).symm)
      isplitl [Hiu]; · iexact Hiu
      isplitl [Hil] <;> iassumption
    iapply (Entails.of_eq (out_windows m c).symm)
    isplitl [Hfl] <;> iassumption
  unfold allClosed closed
  isplitl [Zb]; · iexact Zb
  isplitl [Zx]; · iexact Zx
  isplitl [Zl] <;> iassumption

end Cert.KernelIdeal.Relay

end
-- ==== Proof.Deal.lean ====
/-
The protocol's tokens: one minted per cell and duty, and dealt to the devices that pay the duties.
-/
module

public import proofs.«01_k».proof.Proof.Body
public import proofs.«01_k».proof.Proof.Gen.KernelIdeal.Launch

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Parts ℕ

variable (m : (ℓ : Loc nD τ sig) → Buf (Elt F) ℓ)

/-! ## The semaphores, enumerated -/

/-- The semaphores besides the barrier's: the exit's, the local copy's, and two for each stage and slot. -/
abbrev Own : Type := Option (Option ((Fin 4 × Fin 4) ⊕ (Fin 4 × Fin 4)))

def own : Own → SemLoc sig
  | none => .reg exitS
  | some none => .dma localS
  | some (some (.inl t)) => .dma (sendS t.1 t.2)
  | some (some (.inr t)) => .dma (recvS t.1 t.2)

def place : Option Own → SemLoc sig
  | none => .reg barS
  | some o => own o

theorem place_bijective : Function.Bijective place := by decide +kernel

def places : Option Own ≃ SemLoc sig := Equiv.ofBijective place place_bijective

theorem own_all (Φ : SemLoc sig → sProp 𝕄) : (bigSep Finset.univ fun o => Φ (own o))
    = iprop(Φ (.reg exitS) ∗ Φ (.dma localS) ∗ allSlots fun k s => iprop(Φ (.dma (sendS k s)) ∗ Φ (.dma (recvS k s)))) := by
  rw [bigSep_option, bigSep_option, BI.bigSep_univ_sum, allSlots_sep, allSlots_pairs, allSlots_pairs]; rfl

theorem sem_own (Φ : SemLoc sig → sProp 𝕄) : bigSep Finset.univ Φ = iprop(Φ (.reg barS) ∗ bigSep Finset.univ fun o => Φ (own o)) := by
  rw [BI.bigSep_univ_equiv places Φ, bigSep_option]; rfl

theorem sem_all (Φ : SemLoc sig → sProp 𝕄) : bigSep Finset.univ Φ
    = iprop(Φ (.reg barS) ∗ Φ (.reg exitS) ∗ Φ (.dma localS) ∗ allSlots fun k s => iprop(Φ (.dma (sendS k s)) ∗ Φ (.dma (recvS k s)))) := by
  rw [sem_own, own_all]

/-! ## The tokens -/

/-- A token as minted: a cell of device `c`, and the duty. -/
def tok (c : Dev nD) (sm : SemLoc sig) (j : Fin 5) : sProp 𝕄 := dutyTok ER (cell c sm) 0 j

/-- The tokens of a device's own cells that the protocol uses. -/
def minted (c : Dev nD) : sProp 𝕄 :=
  iprop((bigSep Finset.univ fun j => tok c (.reg barS) j) ∗ (bigSep Finset.univ fun j => tok c (.reg exitS) j) ∗ tok c (.dma localS) 0
    ∗ allSlots fun k s => iprop(tok c (.dma (sendS k s)) 0 ∗ tok c (.dma (recvS k s)) 0))

/-- The tokens of the duties a device pays. -/
def paid (c : Dev nD) : sProp 𝕄 :=
  iprop((bigSep Finset.univ fun j => token c barS j) ∗ (bigSep Finset.univ fun j => token c exitS j) ∗ tok c (.dma localS) 0
    ∗ allSlots fun k s => tokens c k s)

theorem mint (c : Dev nD) : (bigSep Finset.univ fun sm => bigSep Finset.univ fun j => tok (F := F) c sm j) ⊢ minted c := by
  rw [sem_all]
  unfold minted
  have h : ∀ sm, (bigSep Finset.univ fun j => tok (F := F) c sm j) ⊢ tok c sm 0 := fun sm => bigSep_elim (Finset.mem_univ 0)
  exact BI.sep_mono (.refl _) (BI.sep_mono (.refl _) (BI.sep_mono (h _) (bigSep_mono fun k _ => bigSep_mono fun s _ => BI.sep_mono (h _) (h _))))

/-- Each partner's tokens go around its turn of the mesh. -/
theorem deal_signals (q : Sem sig) : (bigSep Finset.univ fun c => bigSep Finset.univ fun j => tok (F := F) c (.reg q) j)
    = bigSep Finset.univ fun c => bigSep Finset.univ fun j => token c q j := by
  rw [Pipeline.bigSep_univ_comm, BI.bigSep_univ_equiv backs, Pipeline.bigSep_univ_comm (fun (c : Dev nD) (j : Fin 5) => token (F := F) c q j)]
  refine bigSep_congr fun j _ => ?_
  rw [BI.bigSep_univ_equiv (turn j)]
  rfl

theorem deal_slots : (bigSep Finset.univ fun c => allSlots fun k s => iprop(tok (F := F) c (.dma (sendS k s)) 0 ∗ tok c (.dma (recvS k s)) 0))
    = bigSep Finset.univ fun c => allSlots fun k s => tokens c k s := by
  simp only [allSlots_pairs]
  rw [Pipeline.bigSep_univ_comm, Pipeline.bigSep_univ_comm (fun (c : Dev nD) (t : Fin 4 × Fin 4) => tokens (F := F) c t.1 t.2)]
  refine bigSep_congr fun t _ => ?_
  unfold tokens
  rw [bigSep_sep', bigSep_sep', BI.bigSep_univ_equiv (turn (via t.1 t.2)) (fun c : Dev nD => tok (F := F) c (.dma (recvS t.1 t.2)) 0)]
  rfl

theorem deal : (bigSep Finset.univ fun c => minted (F := F) c) = bigSep Finset.univ fun c => paid c := by
  unfold minted paid
  rw [bigSep_sep', bigSep_sep', bigSep_sep', deal_signals, deal_signals, deal_slots, ← bigSep_sep', ← bigSep_sep', ← bigSep_sep']

/-! ## The credits -/

theorem second {A B C : sProp 𝕄} (h : B ⊢ C) : iprop(A ∗ B) ⊢ C := by
  iintro ⟨-, H⟩
  iapply h
  iexact H

theorem launch_cell (c : Dev nD) (sm : SemLoc sig) :
    tallyOn (cell c sm) (launchCredit (Pipeline.owing fun d => owed d debts) 0 (cell c sm))
      = (tallyAt (cell c sm) () ((debts.countP fun p => p.2 = sm) * units sm) : CellTallies nD τ sig Unit) := by
  unfold tallyAt; refine congrArg _ (Finsupp.ext fun u => ?_); cases u
  rw [Pipeline.launchCredit_owing, Finsupp.single_eq_same]
  exact sum_owed c sm debts

theorem count_signals : (debts.countP fun p => p.2 = .reg barS) = 5 ∧ (debts.countP fun p => p.2 = .reg exitS) = 5 := by decide
theorem count_recv : ∀ k s, (debts.countP fun p => p.2 = .dma (recvS k s)) = 1 := by decide

theorem credits (c : Dev nD) : (Pipeline.launchCred (fun d => owed d debts) c : sProp 𝕄)
    ⊢ iprop(cred (tallyAt (cell c (.reg barS)) () 5) ∗ cred (tallyAt (cell c (.reg exitS)) () 5)
        ∗ allSlots fun k s => cred (tallyAt (cell c (.dma (recvS k s))) () (credit (width s)))) := by
  unfold Pipeline.launchCred
  rw [bigSep_congr (Ψ := fun sm => cred (tallyAt (cell c sm) () ((debts.countP fun p => p.2 = sm) * units sm))) fun sm _ =>
    congrArg cred (launch_cell c sm), sem_all]
  simp only [count_signals, count_recv, units_recv, Nat.one_mul]
  exact BI.sep_mono (.refl _) (BI.sep_mono (.refl _) (second (bigSep_mono fun k _ => bigSep_mono fun s _ => second .refl)))

/-- A device's share of the protocol, from its positions, its tokens and its credits. -/
theorem share_intro (c : Dev nD) :
    iprop((bigSep Finset.univ fun sm => atPos ER (cell c sm) 0 ∅ 0) ∗ paid c ∗ Pipeline.launchCred (fun d => owed d debts) c) ⊢ (share c : sProp 𝕄) := by
  rw [sem_all]
  unfold share paid gathered standing tok
  iintro ⟨⟨Ab, Ae, Al, As⟩, ⟨Tb, Te, Tl, Ts⟩, Hc⟩
  ihave Hc := (credits c) $$ Hc
  icases Hc with ⟨Cb, Ce, Cs⟩
  isplitl [Tb]; · iexact Tb
  isplitl [Ab Cb]
  · isplitl [Cb] <;> iassumption
  isplitl [Te]; · iexact Te
  isplitl [Ae Ce]
  · isplitl [Ce] <;> iassumption
  isplitl [Tl Al]
  · isplitl [Tl] <;> iassumption
  have h : iprop((allSlots fun k s => iprop(atPos ER (cell c (.dma (sendS k s))) 0 ∅ 0 ∗ atPos ER (cell c (.dma (recvS k s))) 0 ∅ 0))
      ∗ (allSlots fun k s => tokens c k s) ∗ allSlots fun k s => cred (tallyAt (cell c (.dma (recvS k s))) () (credit (width s))))
      ⊢ (allSlots fun k s => iprop((tokens c k s ∗ standing c (port true k s)) ∗ awaited c false k s) : sProp 𝕄) := by
    rw [← allSlots_sep, ← allSlots_sep]
    refine bigSep_mono fun k _ => bigSep_mono fun s _ => ?_
    show iprop((atPos ER (cell c (.dma (sendS k s))) 0 ∅ 0 ∗ atPos ER (cell c (.dma (recvS k s))) 0 ∅ 0) ∗ tokens c k s
      ∗ cred (tallyAt (cell c (.dma (recvS k s))) () (credit (width s)))) ⊢ iprop((tokens c k s ∗ atPos ER (cell c (.dma (sendS k s))) 0 ∅ 0)
        ∗ cred (tallyAt (cell c (.dma (recvS k s))) () (credit (width s))) ∗ atPos ER (cell c (.dma (recvS k s))) 0 ∅ 0)
    iintro ⟨⟨A, B⟩, T, C⟩
    isplitl [A T]
    · isplitl [T] <;> iassumption
    isplitl [C] <;> iassumption
  iapply h
  isplitl [As]; · iexact As
  isplitl [Ts] <;> iassumption

end Cert.KernelIdeal.Relay

end
-- ==== Proof.Launch.lean ====
/-
The launch: the protocol's ghost state funded and shared out, the kernel's run on every device, what the final memory holds.
-/
module

public import proofs.«01_k».proof.Proof.Deal
public import Idealize.ShloMosaic.Lib.Pipeline.CollectiveSegs

@[expose] public section

noncomputable section

namespace Cert.KernelIdeal.Relay

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Parts ℕ

variable (m : (ℓ : Loc nD τ sig) → Buf (Elt F) ℓ) (ρ : Dev nD → PrngReg)

/-! ## The ghost state at launch -/

theorem own_facts : Pipeline.OwnSemFacts cfg0.spec own := by decide +kernel

theorem cell_injective : Function.Injective fun x : Dev nD × SemLoc sig => cell x.1 x.2 := by
  rintro ⟨c, sm⟩ ⟨c', sm'⟩ h
  exact Prod.ext (congrArg (fun g : GSem nD τ sig => g.1.1) h) (congrArg (fun g : GSem nD τ sig => g.2) h)

theorem duty_injective : Function.Injective fun x : Dev nD × (SemLoc sig × Fin 5) => ((cell x.1 x.2.1, 0, x.2.2) : GSem nD τ sig × ℕ × Fin 5) := by
  rintro ⟨c, sm, j⟩ ⟨c', sm', j'⟩ h
  have h1 := cell_injective (a₁ := (c, sm)) (a₂ := (c', sm')) (congrArg Prod.fst h)
  have h2 : j = j' := congrArg (fun x : GSem nD τ sig × ℕ × Fin 5 => x.2.2) h
  cases h1; cases h2; rfl

def allCells : Finset (GSem nD τ sig) := Finset.univ.map ⟨_, cell_injective⟩
def allDuties : Finset (GSem nD τ sig × ℕ × Fin 5) := Finset.univ.map ⟨_, duty_injective⟩

def u₀ : Parts := (initOf (Pipeline.cells cfgs cellOf_inj) (Pipeline.launchToks cfgs cellOf_inj), initOf allCells allDuties)

/-- What each device is given at launch. -/
def funded (c : Dev nD) : sProp 𝕄 :=
  iprop((bigSep Finset.univ fun sm => roundState ER (sched m) (cell c sm) 0) ∗ (bigSep Finset.univ fun sm => reached ER (cell c sm) 0)
    ∗ (bigSep Finset.univ fun sm => atPos ER (cell c sm) 0 ∅ 0) ∗ bigSep Finset.univ fun sm => bigSep Finset.univ fun j => tok c sm j)

theorem fund_all : BI.own (ER (initOf allCells allDuties)) ⊢ (|==> bigSep Finset.univ (funded m) : sProp 𝕄) := by
  have hC (Φ : GSem nD τ sig → sProp 𝕄) : bigSep allCells Φ = bigSep Finset.univ fun c : Dev nD => bigSep Finset.univ fun sm => Φ (cell c sm) := by
    unfold allCells; rw [bigSep_map, bigSep_univ_prod]; rfl
  have hT : bigSep allDuties (fun x => (dutyTok ER x.1 x.2.1 x.2.2 : sProp 𝕄))
      = bigSep Finset.univ fun c : Dev nD => bigSep Finset.univ fun sm => bigSep Finset.univ fun j => tok c sm j := by
    unfold allDuties; rw [bigSep_map, bigSep_univ_prod]
    exact bigSep_congr fun c _ => by rw [bigSep_univ_prod]; rfl
  iintro HX
  imod (Rounds.fund ER (sched m) allCells allDuties) $$ HX with ⟨Hst, Hr, Hat, Htok⟩
  imodintro
  ihave Hst := (Entails.of_eq (hC fun g => roundState ER (sched m) g 0)) $$ Hst
  ihave Hr := (Entails.of_eq (hC fun g => reached ER g 0)) $$ Hr
  ihave Hat := (Entails.of_eq (hC fun g => atPos ER g 0 ∅ 0)) $$ Hat
  ihave Htok := (Entails.of_eq hT) $$ Htok
  unfold funded; simp only [bigSep_sep']
  isplitl [Hst]; · iexact Hst
  isplitl [Hr]; · iexact Hr
  isplitl [Hat] <;> iassumption

/-! ## The cells opened, for all devices at once -/

theorem barrier_sem (c : Dev nD) : (unscopedSems0 c : sProp 𝕄) = semVal (cell c (.reg barS)) 0 := by
  unfold unscopedSems0; rw [bigSep_eq_bigSepL_of_eq [SemLoc.reg barS] (by decide) (by decide)]; rfl

theorem own_sems (c : Dev nD) : (Pipeline.ownSems0 (Ix := Unit) (Name := ℕ) (U := Parts) (Lvl := ℕ) (Val := Elt F) (τ := τ) own c : sProp 𝕄)
    = iprop(closed c (.reg exitS) ∗ closed c (.dma localS) ∗ allSlots fun k s => iprop(closed c (.dma (sendS k s)) ∗ closed c (.dma (recvS k s)))) := by
  unfold Pipeline.ownSems0; exact own_all fun sm => closed c sm

theorem open_sems (c : Dev nD) :
    iprop(Pipeline.ownSems0 (Ix := Unit) (Name := ℕ) (U := Parts) (Lvl := ℕ) (Val := Elt F) (τ := τ) own c ∗ unscopedSems0 c)
      ⊢ (bigSep Finset.univ fun sm => semVal (cell c sm) 0 : sProp 𝕄) := by
  rw [barrier_sem, sem_own]
  unfold Pipeline.ownSems0
  iintro ⟨H, B⟩
  isplitl [B]; · iexact B
  iexact H

theorem open_cells (c : Dev nD) :
    iprop(Pipeline.ownSems0 (Ix := Unit) (Name := ℕ) (U := Parts) (Lvl := ℕ) (Val := Elt F) (τ := τ) own c ∗ unscopedSems0 c ∗ funded m c)
      ⊢ |={Set.univ}=> iprop((bigSep Finset.univ fun sm => iprop(∃ κ : ℕ, cellInv ER (sched m) κ (cell c sm)))
          ∗ (bigSep Finset.univ fun sm => reached ER (cell c sm) 0) ∗ (bigSep Finset.univ fun sm => atPos ER (cell c sm) 0 ∅ 0) ∗ minted c) := by
  unfold funded
  iintro ⟨Ho, Hu, Hst, Hr, Hat, Htok⟩
  ihave Hv := (open_sems (F := F) c) $$ [Ho Hu]
  · isplitl [Ho] <;> iassumption
  ihave Htok := (mint c) $$ Htok
  imod (show iprop((bigSep Finset.univ fun sm => semVal (cell c sm) 0) ∗ bigSep Finset.univ fun sm => roundState ER (sched m) (cell c sm) 0)
      ⊢ (|={Set.univ}=> bigSep Finset.univ fun sm => iprop(∃ κ : ℕ, cellInv ER (sched m) κ (cell c sm)) : sProp 𝕄) from by
        rw [← bigSep_sep']
        exact (bigSep_mono fun sm _ => (Rounds.body_intro ER (sched m) (cell c sm)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- What each device holds when every cell is open: all the invariants and marks; its own positions; the tokens it pays with. -/
def ready (c : Dev nD) : sProp 𝕄 := iprop(∃ K, records m K ∗ (bigSep Finset.univ fun sm => atPos ER (cell c sm) 0 ∅ 0) ∗ paid c)

/-- A persistent fact goes to every device. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem open_all :
    (bigSep Finset.univ fun c : Dev nD => iprop((bigSep Finset.univ fun sm => iprop(∃ κ : ℕ, cellInv ER (sched m) κ (cell c sm)))
        ∗ (bigSep Finset.univ fun sm => reached ER (cell c sm) 0) ∗ (bigSep Finset.univ fun sm => atPos ER (cell c sm) 0 ∅ 0) ∗ minted c) : sProp 𝕄)
      ⊢ bigSep Finset.univ (ready m) := by
  rw [bigSep_sep', bigSep_sep', bigSep_sep', deal,
    ← bigSep_univ_prod (fun x : Dev nD × SemLoc sig => iprop(∃ κ : ℕ, cellInv ER (sched m) κ (cell x.1 x.2))),
    ← bigSep_univ_prod (fun x : Dev nD × SemLoc sig => (reached ER (cell x.1 x.2) 0 : sProp 𝕄)), ← bigSep_sep']
  iintro ⟨HI, #HR, Hlin⟩
  ihave HK := (BI.bigSep_exists_pi Finset.univ (fun (x : Dev nD × SemLoc sig) (κ : ℕ) => (cellInv ER (sched m) κ (cell x.1 x.2) : sProp 𝕄))) $$ HI
  icases HK with ⟨%K, #HI⟩
  iapply (spread (R := records m K) (Φ := fun c => iprop((bigSep Finset.univ fun sm => atPos ER (cell c sm) 0 ∅ 0) ∗ paid c)) fun c => by
    unfold ready
    iintro H
    iexists K
    iexact H)
  isplitr
  · unfold records; isplitl; · iexact HI
    iexact HR
  iexact Hlin

theorem glob : (bigSep Finset.univ fun c => iprop(Pipeline.ownSems0 (Ix := Unit) (Name := ℕ) (U := Parts) (Lvl := ℕ) (Val := Elt F) (τ := τ) own c
      ∗ unscopedSems0 c ∗ funded m c) : sProp 𝕄) ⊢ |={Set.univ}=> bigSep Finset.univ (ready m) :=
  ((bigSep_mono fun c _ => open_cells m c).trans (bigSep_fupd _ _)).trans (BI.fupd_mono (open_all m))

/-! ## The kernel as the one grid point of its call -/

/-- Before the body, and after it. -/
def before (c : Dev nD) : sProp 𝕄 := iprop(∃ K, env m K ∗ buffers m c (m ((c : Thread nD τ).loc main_v1)) ∗ share c)
def after (c : Dev nD) : sProp 𝕄 := iprop(buffers m c (final m c) ∗ allClosed c)

def dats (_ : Fin 1) (c : Dev nD) : Dat τ (Elt F) Unit ℕ Parts ℕ cfg0 c where
  A w := w.elim0
  after w _ := w.elim0
  Φ t := match t with
    | ⟨0, _⟩ => before m c
    | ⟨_ + 1, _⟩ => after m c
  q _ := fullShare
  owed t := match t with
    | ⟨0, _⟩ => owed c debts
    | ⟨_ + 1, _⟩ => 0

theorem no_windows (Φ : Fin cfg0.W → sProp 𝕄) : bigSep Finset.univ Φ = BI.emp := by
  rw [show (Finset.univ : Finset (Fin cfg0.W)) = ∅ from rfl]; rfl

theorem body_obligation (c : Dev nD) : BodyObligation (dats m 0 c) (defs₀ (F := F)) 𝒱₀ () Set.univ := fun t => by
  rw [fin_N0 t, no_windows, no_windows]
  show iprop(before m c ∗ (dats m 0 c).owesAt () t0_0.castSucc ∗ BI.emp) ⊢ runs c
    (cc0_body xM (Memref.isWhole_whole _) oM (Memref.isWhole_whole _) cc0_scratch0 cc0_scratch1 cc0_scratch2 cc0_scratch3 cc0_scratch4 cc0_scratch5 cc0_scratch6 cc0_scoped0)
    (fun _ => iprop(after m c ∗ (dats m 0 c).owesAt () t0_0.succ ∗ BI.emp))
  unfold before after Dat.owesAt Pipeline.owesWithin
  iintro ⟨⟨%K, #He, Hb, Hs⟩, ⟨%W, -, Ho⟩, -⟩
  iapply (body_runs m K c (m ((c : Thread nD τ).loc main_v1))) $$ [Hb Hs Ho]
  · isplitr; · iexact He
    isplitl [Ho]
    · unfold held; iexists W; iexact Ho
    isplitl [Hb] <;> iassumption
  unfold held
  iintro ⟨⟨%W, Ho⟩, Hb, Hc⟩
  isplitl [Hb Hc]
  · isplitl [Hb] <;> iassumption
  isplitl
  · iexists W
    isplitr; · ipureintro; exact fun _ _ => Or.inl trivial
    iexact Ho
  iempintro

/-! ## The theorem's side conditions -/

theorem enter (c : Dev nD) :
    iprop(Pipeline.unscopedRestP Pipeline.Prefetch.none cfg0.spec c (fun b => m ((c : Thread nD τ).loc b)) ∗ levAts L lv
        ∗ Pipeline.launchCred (fun d => owed d debts) c ∗ prngReg c (ρ c) ∗ ready m c)
      ⊢ |={Set.univ}=> iprop(before m c ∗ emp) := by
  rw [Pipeline.unscopedRestP_none, unscopedRest0_eq]
  unfold ready before env buffers
  iintro ⟨Hb, Hl, Hc, -, ⟨%K, Hr, Hat, Hp⟩⟩
  ihave Hs := (share_intro c) $$ [Hc Hat Hp]
  · isplitl [Hat]; · iexact Hat
    isplitl [Hp] <;> iassumption
  imodintro
  isplitl
  · iexists K
    isplitl [Hr Hl]
    · isplitl [Hr] <;> iassumption
    isplitl [Hb]; · iexact Hb
    iexact Hs
  iempintro

theorem first_point (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  iintro ⟨H, -, -⟩
  iexact H

theorem leave (c : Dev nD) : (dats m 0 c).Φ (Fin.last cfg0.N)
    ⊢ iprop((buffers m c (final m c) ∗ unscopedSems0 c) ∗ Pipeline.ownSems0 own c ∗ Pipeline.scopedRest cfg0.spec c) := by
  rw [show (dats m 0 c).Φ (Fin.last cfg0.N) = after m c from rfl, scopedRest0_eq, own_sems, barrier_sem]
  unfold after allClosed closed
  iintro ⟨Hb, Hbar, Ho⟩
  isplitl [Hb Hbar]
  · isplitl [Hb]; · iexact Hb
    iexact Hbar
  isplitl [Ho]; · iexact Ho
  iempintro

theorem waits (c : Dev nD) : (levAts L lv : sProp 𝕄) ⊢ Pipeline.cellsWaits cfgs (dats m) () 0 c :=
  Pipeline.cellsWaits_intro cfgs (dats m) () 0 c fun w => w.elim0

/-- What is read off the final memory of a device. -/
def Holds (c : Dev nD) (s : MemSt nD τ sig (Elt F)) : Prop :=
  (s.mem ((c : Thread nD τ).loc main_arg0) = m ((c : Thread nD τ).loc main_arg0) ∧ s.mem ((c : Thread nD τ).loc main_v1) = final m c)
    ∧ ∀ sm : SemLoc sig, sm.isScoped .tc = false → s.sem ((c : Thread nD τ), sm) = 0

theorem read_off (c : Dev nD) (s' : Phys nD τ sig (Elt F)) :
    iprop((buffers m c (final m c) ∗ unscopedSems0 c) ∗ emp ∗ SI s') ⊢ |={Set.univ}=> iprop(⌜Holds m c s'.mem⌝ ∗ (SI s' : sProp 𝕄)) := by
  unfold buffers
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%h, HSI⟩
  · isplitl [Hu] <;> iassumption
  imodintro
  isplitr
  · ipureintro; exact ⟨⟨Buf.eq_of_forall_mem_univ hx, Buf.eq_of_forall_mem_univ ho⟩, h⟩
  iexact HSI

/-! ## The run -/

/-- From any memory with every counter at zero, for any float values: every fair run of the kernel on the 32 devices ends,
    and at its end each device's operand is what it was, its result is `final`, and every counter is at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = final m c)
      ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := fun d => owed d debts) (howed₀ := fun _ => rfl) (howedN := fun _ => rfl)
    (L := L) (lv := lv) (hL := L_of_ne) (hwaits := waits m)
    (G := funded m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := before m) (Y := fun c => iprop(buffers m c (final m c) ∗ unscopedSems0 c)) (Z := fun _ => iprop(emp))
    (hX := enter m ρ) (hin := first_point m) (hout := leave m)
    (QY := Holds m) (hY := read_off m)
    (hQ := fun _ h hs => ⟨fun c => (h c).2.2.1, sem_eq_zero hs fun c => (h c).2.2.2⟩)

end Cert.KernelIdeal.Relay

end
-- ==== Proof.Value.lean ====
/-
The value: when every device's operand is its row block of one array, every device's result is its column block of that array.
-/
module

public import proofs.«01_k».proof.Proof.Windows
public import Idealize.ShloMosaic.Lib.Layout

@[expose] public section

noncomputable section

namespace Cert.KernelIdeal.Relay

open Idealize.ShloMosaic Idealize.ShloMosaic.TcCoe Cert.KernelIdeal Cert.KernelIdeal.Gen

variable {F : FTy → Type}

variable (m : (ℓ : Loc nD τ sig) → Buf (Elt F) ℓ)

/-- The whole array's shape. -/
abbrev Whole : Shape := ⟨2, ![16384, 4096]⟩

theorem mesh_row : ∀ d : Dev nD, Layout.meshLin [2, 4, 4] d.val [1] = row d := by decide +kernel

/-- An element of a device's operand, in the whole array. -/
theorem operand_whole {whole : Whole.Idx → Elt F .f32} {d : Dev nD} {r l : ℕ} {hr : r < 4096} {hl : l < 4096}
    (h : m ((d : Thread nD τ).loc main_arg0) = Layout.blockN ⟨2, ![4096, 4096]⟩ Whole (Layout.meshBlock [2, 4, 4] ![[1], []] d) whole)
    (i : Whole.Idx) (h0 : (i 0).val = row d * 4096 + r) (h1 : (i 1).val = l) : operand m d r l hr hl = whole i := by
  unfold operand
  rw [h, Layout.blockN_apply]
  congr 1
  funext b
  refine Fin.ext ((Layout.TilesN.idx_val _ _ _ b).trans ?_)
  match b with
  | ⟨0, _⟩ =>
    refine Eq.trans ?_ h0.symm
    show Layout.meshLin [2, 4, 4] d.val [1] * 4096 + r = _
    rw [mesh_row]
  | ⟨1, _⟩ =>
    refine Eq.trans ?_ h1.symm
    show 0 * 4096 + l = l
    rw [Nat.zero_mul, Nat.zero_add]

theorem final_whole (whole : Whole.Idx → Elt F .f32)
    (h : ∀ d : Dev nD, m ((d : Thread nD τ).loc main_arg0)
      = Layout.blockN ⟨2, ![4096, 4096]⟩ Whole (Layout.meshBlock [2, 4, 4] ![[1], []] d) whole) (c : Dev nD) :
    final m c = Layout.blockN ⟨2, ![16384, 1024]⟩ Whole (Layout.meshBlock [2, 4, 4] ![[], [1]] c) whole := by
  funext i
  have hp : (i 0).val / 4096 < 4 := Nat.div_lt_of_lt_mul (i 0).isLt
  have hq : (i 1).val / 256 < 4 := Nat.div_lt_of_lt_mul (i 1).isLt
  rw [Layout.blockN_apply]
  refine operand_whole m (h _) _ ?_ ?_
  · refine (Layout.TilesN.idx_val _ _ _ _).trans ?_
    rw [show row (origin c ((i 0).val / 4096) ((i 1).val / 256)) = (i 0).val / 4096 from row_origin c ⟨_, hp⟩ ⟨_, hq⟩,
      Nat.div_add_mod']
    show 0 * 16384 + (i 0).val = (i 0).val
    rw [Nat.zero_mul, Nat.zero_add]
  · refine (Layout.TilesN.idx_val _ _ _ _).trans ?_
    show Layout.meshLin [2, 4, 4] c.val [1] * 1024 + (i 1).val = _
    rw [mesh_row, Nat.mul_comm]

end Cert.KernelIdeal.Relay

end
-- ==== Proof.Reference.lean ====
/-
The reference's run: its @main does nothing, and returns its argument.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Same

open Idealize.ShloMosaic Idealize.ShloMosaic.TcCoe Cert.ReferenceIdeal Cert.ReferenceIdeal.Gen Idealize.SL.Sem

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdeal.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).1, h.2⟩) (Cert.KernelIdeal.Relay.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Relay.run_main m ρ)

theorem frame_reference : Cert.quiescent_ReferenceIdeal := fun m ρ _ => Cert.ReferenceIdeal.Same.run_main m ρ

/-- Every device's result is its column block of the reference's result. -/
theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ r c => ⟨(r.1 c).2.trans (Cert.KernelIdeal.Relay.final_whole m _ h c), (r.1 c).1⟩)
      (Cert.KernelIdeal.Relay.run_main m ρ),
    (θ_run Cert.ReferenceIdeal.defs _ _).mono (fun _ r => ⟨r.1 0, r.1 0⟩) (Cert.ReferenceIdeal.Same.run_main m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
